-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v3_0)) (v4 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v3_0) = v3 c
          ∧ r.2.mem ((c.tc : Thread Cert.KernelIdeal.nD Cert.KernelIdeal.τ).loc Cert.KernelIdeal.main_v3_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x3584 : Shape := ⟨3, ![1, 1024, 3584]⟩
abbrev S3584x9472 : Shape := ⟨2, ![3584, 9472]⟩
abbrev S9472 : Shape := ⟨1, ![9472]⟩
abbrev S4736x3584 : Shape := ⟨2, ![4736, 3584]⟩
abbrev S3584 : Shape := ⟨1, ![3584]⟩
abbrev S1024x3584 : Shape := ⟨2, ![1024, 3584]⟩
abbrev S1024x1 : Shape := ⟨2, ![1024, 1]⟩
abbrev S128x3584 : Shape := ⟨2, ![128, 3584]⟩
abbrev S128x1 : Shape := ⟨2, ![128, 1]⟩
abbrev S128 : Shape := ⟨1, ![128]⟩
abbrev S128x256 : Shape := ⟨2, ![128, 256]⟩
abbrev S74x1x128 : Shape := ⟨3, ![74, 1, 128]⟩
abbrev S1024x4736 : Shape := ⟨2, ![1024, 4736]⟩
abbrev S3584x128 : Shape := ⟨2, ![3584, 128]⟩
abbrev S1x1x128 : Shape := ⟨3, ![1, 1, 128]⟩
abbrev S37x1024x128 : Shape := ⟨3, ![37, 1024, 128]⟩
abbrev S1024x128 : Shape := ⟨2, ![1024, 128]⟩
abbrev S3584x256 : Shape := ⟨2, ![3584, 256]⟩
abbrev S1024x256 : Shape := ⟨2, ![1024, 256]⟩
abbrev S1x128 : Shape := ⟨2, ![1, 128]⟩
abbrev S1x1024x128 : Shape := ⟨3, ![1, 1024, 128]⟩
abbrev S1024 : Shape := ⟨1, ![1024]⟩
abbrev S1x3584 : Shape := ⟨2, ![1, 3584]⟩
abbrev S4736x512 : Shape := ⟨2, ![4736, 512]⟩
abbrev S1x512 : Shape := ⟨2, ![1, 512]⟩
abbrev S1024x512 : Shape := ⟨2, ![1024, 512]⟩

abbrev nBuf : Space → Nat
  | .hbm => 13
  | .vmem => 28
  | .smem => 0
  | _ => 0

abbrev bufTy : (tb : Table) → Fin (tcTables nBuf tb) → BufTy
  | .hbm, ⟨0, _⟩ => ⟨S1x1024x3584, .bf16⟩
  | .hbm, ⟨1, _⟩ => ⟨S3584x9472, .fp8e4m3⟩
  | .hbm, ⟨2, _⟩ => ⟨S9472, .f32⟩
  | .hbm, ⟨3, _⟩ => ⟨S4736x3584, .fp8e4m3⟩
  | .hbm, ⟨4, _⟩ => ⟨S3584, .f32⟩
  | .hbm, ⟨5, _⟩ => ⟨S1024x3584, .bf16⟩
  | .hbm, ⟨6, _⟩ => ⟨S1024x3584, .fp8e4m3⟩
  | .hbm, ⟨7, _⟩ => ⟨S1024x1, .f32⟩
  | .hbm, ⟨8, _⟩ => ⟨S74x1x128, .f32⟩
  | .hbm, ⟨9, _⟩ => ⟨S1024x4736, .fp8e4m3⟩
  | .hbm, ⟨10, _⟩ => ⟨S1024x1, .f32⟩
  | .hbm, ⟨11, _⟩ => ⟨S1x3584, .f32⟩
  | .hbm, ⟨12, _⟩ => ⟨S1024x3584, .bf16⟩
  | .local _ .vmem, ⟨0, _⟩ => ⟨S128x3584, .bf16⟩
  | .local _ .vmem, ⟨1, _⟩ => ⟨S128x3584, .bf16⟩
  | .local _ .vmem, ⟨2, _⟩ => ⟨S128x3584, .fp8e4m3⟩
  | .local _ .vmem, ⟨3, _⟩ => ⟨S128x3584, .fp8e4m3⟩
  | .local _ .vmem, ⟨4, _⟩ => ⟨S128x1, .f32⟩
  | .local _ .vmem, ⟨5, _⟩ => ⟨S128x1, .f32⟩
  | .local _ .vmem, ⟨6, _⟩ => ⟨S1024x3584, .fp8e4m3⟩
  | .local _ .vmem, ⟨7, _⟩ => ⟨S1024x1, .f32⟩
  | .local _ .vmem, ⟨8, _⟩ => ⟨S3584x128, .fp8e4m3⟩
  | .local _ .vmem, ⟨9, _⟩ => ⟨S3584x128, .fp8e4m3⟩
  | .local _ .vmem, ⟨10, _⟩ => ⟨S3584x128, .fp8e4m3⟩
  | .local _ .vmem, ⟨11, _⟩ => ⟨S3584x128, .fp8e4m3⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1024x4736, .fp8e4m3⟩
  | .local _ .vmem, ⟨17, _⟩ => ⟨S1024x1, .f32⟩
  | .local _ .vmem, ⟨18, _⟩ => ⟨S37x1024x128, .f32⟩
  | .local _ .vmem, ⟨19, _⟩ => ⟨S1024x128, .f32⟩
  | .local _ .vmem, ⟨20, _⟩ => ⟨S1024x4736, .fp8e4m3⟩
  | .local _ .vmem, ⟨21, _⟩ => ⟨S1024x1, .f32⟩
  | .local _ .vmem, ⟨22, _⟩ => ⟨S4736x512, .fp8e4m3⟩
  | .local _ .vmem, ⟨23, _⟩ => ⟨S4736x512, .fp8e4m3⟩
  | .local _ .vmem, ⟨24, _⟩ => ⟨S1x512, .f32⟩
  | .local _ .vmem, ⟨25, _⟩ => ⟨S1x512, .f32⟩
  | .local _ .vmem, ⟨26, _⟩ => ⟨S1024x512, .bf16⟩
  | .local _ .vmem, ⟨27, _⟩ => ⟨S1024x512, .bf16⟩
  | _, _ => ⟨S1x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![37], ![false]⟩

def k1_off1 (i : grid1.Coords) : Fin 3 → Nat :=
  let arg0 : BitVec 32 := BitVec.ofNat 32 (i 0).val
  let v25 : Index := Scalar.indexCast arg0
  let c0_13 : Index := 0#32
  let c0_14 : Index := 0#32
  ![v25.toNat, 0, 0]
def k1_cond3 (i : grid1.Coords) : BitVec 1 :=
  let arg0 : BitVec 32 := BitVec.ofNat 32 (i 0).val
  let c36_i32 : BitVec 32 := 36#32
  let v35 : BitVec 1 := Scalar.cmpi .eq arg0 c36_i32
  let v36 : BitVec 32 := Scalar.extui v35
  let c0_i32_18 : BitVec 32 := 0#32
  let v37 : BitVec 1 := Scalar.cmpi .ne v36 c0_i32_18
  v37

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c37_i32 : BitVec 32 := 37#32
  let v0 : BitVec 32 := Scalar.addi arg0 c37_i32
  let c0_i32 : BitVec 32 := 0#32
  let c0_i32_0 : BitVec 32 := 0#32
  ![c0_i32.toNat, v0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c37_i32 : BitVec 32 := 37#32
  let v0 : BitVec 32 := Scalar.addi arg0 c37_i32
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x3584 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3584x128 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3584x128 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x4736 .fp8e4m3 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![7], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x4736 .fp8e4m3 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4736x512 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S1x1024x3584 : Shape := ⟨3, ![1, 1024, 3584]⟩
abbrev S3584x9472 : Shape := ⟨2, ![3584, 9472]⟩
abbrev S9472 : Shape := ⟨1, ![9472]⟩
abbrev S4736x3584 : Shape := ⟨2, ![4736, 3584]⟩
abbrev S3584 : Shape := ⟨1, ![3584]⟩
abbrev S1024x3584 : Shape := ⟨2, ![1024, 3584]⟩
abbrev S1x9472 : Shape := ⟨2, ![1, 9472]⟩
abbrev S1x3584 : Shape := ⟨2, ![1, 3584]⟩
abbrev S1024x1 : Shape := ⟨2, ![1024, 1]⟩
abbrev S1024x4736 : Shape := ⟨2, ![1024, 4736]⟩
abbrev S1024 : Shape := ⟨1, ![1024]⟩
abbrev S1024x9472 : Shape := ⟨2, ![1024, 9472]⟩

abbrev nBuf : Space → Nat
  | .hbm => 13
  | .vmem => 10
  | .smem => 0
  | _ => 0

abbrev bufTy : (tb : Table) → Fin (tcTables nBuf tb) → BufTy
  | .hbm, ⟨0, _⟩ => ⟨S1x1024x3584, .bf16⟩
  | .hbm, ⟨1, _⟩ => ⟨S3584x9472, .fp8e4m3⟩
  | .hbm, ⟨2, _⟩ => ⟨S9472, .f32⟩
  | .hbm, ⟨3, _⟩ => ⟨S4736x3584, .fp8e4m3⟩
  | .hbm, ⟨4, _⟩ => ⟨S3584, .f32⟩
  | .hbm, ⟨5, _⟩ => ⟨S1024x3584, .bf16⟩
  | .hbm, ⟨6, _⟩ => ⟨S1x9472, .f32⟩
  | .hbm, ⟨7, _⟩ => ⟨S1x3584, .f32⟩
  | .hbm, ⟨8, _⟩ => ⟨S1024x3584, .bf16⟩
  | .hbm, ⟨9, _⟩ => ⟨S1024x3584, .fp8e4m3⟩
  | .hbm, ⟨10, _⟩ => ⟨S1024x1, .f32⟩
  | .hbm, ⟨11, _⟩ => ⟨S1024x4736, .fp8e4m3⟩
  | .hbm, ⟨12, _⟩ => ⟨S1024x1, .f32⟩
  | .local _ .vmem, ⟨0, _⟩ => ⟨S1024x3584, .bf16⟩
  | .local _ .vmem, ⟨1, _⟩ => ⟨S3584x9472, .fp8e4m3⟩
  | .local _ .vmem, ⟨2, _⟩ => ⟨S1x9472, .f32⟩
  | .local _ .vmem, ⟨3, _⟩ => ⟨S4736x3584, .fp8e4m3⟩
  | .local _ .vmem, ⟨4, _⟩ => ⟨S1x3584, .f32⟩
  | .local _ .vmem, ⟨5, _⟩ => ⟨S1024x3584, .bf16⟩
  | .local _ .vmem, ⟨6, _⟩ => ⟨S1024x3584, .fp8e4m3⟩
  | .local _ .vmem, ⟨7, _⟩ => ⟨S1024x1, .f32⟩
  | .local _ .vmem, ⟨8, _⟩ => ⟨S1024x4736, .fp8e4m3⟩
  | .local _ .vmem, ⟨9, _⟩ => ⟨S1024x1, .f32⟩
  | _, _ => ⟨S1x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1024x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x9472 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9472 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4736x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x4736 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Quant.lean ====
/- The quantising region (custom_call 0) at any contents it is entered with: what its body leaves in each
   output block, the proof data of its pipeline and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x3584 := Rect.unit (s := S128x3584) ![0, 0] S128x3584.size inb_S128x3584_S128x3584_0_0
abbrev r0_1 : Rect S128x1 := Rect.unit (s := S128x1) ![0, 0] S128x1.size inb_S128x1_S128x1_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S128x3584 .bf16) : Vec F S128x3584 .fp8e4m3 :=
  View.canon [⟨r0_0, k0_pay2 (k0_pay3 (View.ld x0 r0_0)) (k0_pay6 (View.ld x0 r0_0))⟩]

/-- Its stores tile the buffer (checked by evaluation), so they cover it. -/
theorem cover0_1 (p0 : Vec F S128x3584 .fp8e4m3) (y : S128x3584.Idx) :
    ∃ pc ∈ ([⟨r0_0, p0⟩] : List (View.Piece (Elt F) S128x3584 .fp8e4m3)), y ∈ pc.1.set :=
  View.cover_of_tiled [⟨r0_0, p0⟩] S128x3584.size (by rfl) y

/-- Window 2's staging buffer after the body, from the input windows' blocks: its 1 store as pieces, LAST
    FIRST (Lib/Pipeline/FrameBody.lean `View.canon`; the payloads are the skeleton's). -/
def out0_2 (x0 : Vec F S128x3584 .bf16) : Vec F S128x1 .f32 :=
  View.canon [⟨r0_1, k0_pay1 (F := F) (k0_pay5 (View.ld x0 r0_0))⟩]

/-- Its stores tile the buffer (checked by evaluation), so they cover it. -/
theorem cover0_2 (p0 : Vec F S128x1 .f32) (y : S128x1.Idx) :
    ∃ pc ∈ ([⟨r0_1, p0⟩] : List (View.Piece (Elt F) S128x1 .f32)), y ∈ pc.1.set :=
  View.cover_of_tiled [⟨r0_1, p0⟩] S128x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S128x3584 .bf16) (harg1 : arg1.IsWhole) (arg2 : Memref sig .tc .vmem S128x3584 .fp8e4m3) (harg2 : arg2.IsWhole) (arg3 : Memref sig .tc .vmem S128x1 .f32) (harg3 : arg3.IsWhole)
    (x0 : Vec F S128x3584 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quantise_x i arg1 harg1 arg2 harg2 arg3 harg3) K := by
  simp only [cc0_quantise_x_eq_skeleton]; unfold cc0_quantise_x_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.Kernel.GateUpBase.lean ====
/- The gate and up projection region (custom_call 1): its input blocks, the branch conditions of its body in
   closed form, where its output windows are idle, and its staging and scratch memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 37 = 0 :=
  (fun t => by
    have ht : t.val < 37 := Nat.lt_of_lt_of_eq t.isLt N_1
    have e0 : (grid1.coords t 0).val = t.val / 1 % 37 := Pipeline.Grid.coords_val t 0 (by decide) rfl
    simp only [cond1_0, e0]
    word_cmp
   : ∀ t : Fin grid1.N, cond1_0 (grid1.coords t) ↔ t.val % 37 = 0)

/-- The condition of the body's `scf.if` 1 (`k1_h2`), from the grid coordinates (the skeleton's scalar
    chain substituted). -/
abbrev cond1_1 (i : grid1.Coords) : Prop := (Scalar.cmpi .ne (Scalar.extui (Scalar.cmpi .sgt (BitVec.ofNat 32 (i 0).val) 0#32)) 0#32) = 1#1
/-- It holds at the points from point 1 on — decided over the grid. -/
theorem hcond1_1 : ∀ t : Fin cfg1.N, cond1_1 (grid1.coords t) ↔ 1 ≤ t.val :=
  (by decide +kernel : ∀ t : Fin grid1.N, cond1_1 (grid1.coords t) ↔ 1 ≤ t.val)

/-- The condition of the body's `scf.if` 2 (`k1_h3`), from the grid coordinates (the skeleton's scalar
    chain substituted). -/
abbrev cond1_2 (i : grid1.Coords) : Prop := k1_cond3 i = 1#1
/-- It holds at the last point only — by arithmetic of the point. -/
theorem hcond1_2 : ∀ t : Fin cfg1.N, cond1_2 (grid1.coords t) ↔ t.val % 37 = 36 :=
  (fun t => by
    have ht : t.val < 37 := Nat.lt_of_lt_of_eq t.isLt N_1
    have e0 : (grid1.coords t 0).val = t.val / 1 % 37 := Pipeline.Grid.coords_val t 0 (by decide) rfl
    simp only [cond1_2, k1_cond3, e0]
    word_cmp
   : ∀ t : Fin grid1.N, cond1_2 (grid1.coords t) ↔ t.val % 37 = 36)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- At the points of case A the printed configuration (`Cfg.idle`) calls output 6 idle: the case stores nothing into it. -/
theorem idleAt1_6_A : ∀ t : Fin cfg1.N, cond1_0 (grid1.coords t) → ¬cond1_1 (grid1.coords t) → ¬cond1_2 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → ¬cond1_2 (grid1.coords t) → (cfg1.win 6).flush t = false := by decide +kernel
/-- At the points of case B the printed configuration (`Cfg.idle`) calls output 6 idle: the case stores nothing into it. -/
theorem idleAt1_6_B : ∀ t : Fin cfg1.N, ¬cond1_0 (grid1.coords t) → cond1_1 (grid1.coords t) → ¬cond1_2 (grid1.coords t) → cfg1.idle 6 (grid1.coords t) = true := by decide +kernel
/-- At the points of case B the pipeline does not write output 6's block back. -/
theorem noFlush1_6_B : ∀ t : Fin cfg1.N, ¬cond1_0 (grid1.coords t) → cond1_1 (grid1.coords t) → ¬cond1_2 (grid1.coords t) → (cfg1.win 6).flush t = false := by decide +kernel
/-- At the points of case C the printed configuration (`Cfg.idle`) calls output 6 live: the case stores into it. -/
theorem liveAt1_6_C : ∀ t : Fin cfg1.N, ¬cond1_0 (grid1.coords t) → cond1_1 (grid1.coords t) → cond1_2 (grid1.coords t) → cfg1.idle 6 (grid1.coords t) = false := by decide +kernel
/-- At the points of case A the printed configuration (`Cfg.idle`) calls output 7 idle: the case stores nothing into it. -/
theorem idleAt1_7_A : ∀ t : Fin cfg1.N, cond1_0 (grid1.coords t) → ¬cond1_1 (grid1.coords t) → ¬cond1_2 (grid1.coords t) → cfg1.idle 7 (grid1.coords t) = true := by decide +kernel
/-- At the points of case A the pipeline does not write output 7's block back. -/
theorem noFlush1_7_A : ∀ t : Fin cfg1.N, cond1_0 (grid1.coords t) → ¬cond1_1 (grid1.coords t) → ¬cond1_2 (grid1.coords t) → (cfg1.win 7).flush t = false := by decide +kernel
/-- At the points of case B the printed configuration (`Cfg.idle`) calls output 7 idle: the case stores nothing into it. -/
theorem idleAt1_7_B : ∀ t : Fin cfg1.N, ¬cond1_0 (grid1.coords t) → cond1_1 (grid1.coords t) → ¬cond1_2 (grid1.coords t) → cfg1.idle 7 (grid1.coords t) = true := by decide +kernel
/-- At the points of case B the pipeline does not write output 7's block back. -/
theorem noFlush1_7_B : ∀ t : Fin cfg1.N, ¬cond1_0 (grid1.coords t) → cond1_1 (grid1.coords t) → ¬cond1_2 (grid1.coords t) → (cfg1.win 7).flush t = false := by decide +kernel
/-- At the points of case C the printed configuration (`Cfg.idle`) calls output 7 live: the case stores into it. -/
theorem liveAt1_7_C : ∀ t : Fin cfg1.N, ¬cond1_0 (grid1.coords t) → cond1_1 (grid1.coords t) → cond1_2 (grid1.coords t) → cfg1.idle 7 (grid1.coords t) = false := by decide +kernel
/-- Where the body stores its tile: the slice of the point. -/
theorem off1_eq : ∀ t : Fin cfg1.N, k1_off1 (grid1.coords t) = ![t.val, 0, 0] :=
  (by decide +kernel : ∀ t : Fin grid1.N, k1_off1 (grid1.coords t) = ![t.val, 0, 0])

/-- Each window's current staging memref at point `t`, spelled as the pipeline passes it (`bodyAt1`), and its wholeness. -/
abbrev ms1_0 (t : Fin cfg1.N) : Memref sig .tc .vmem S1024x3584 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3584x128 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3584x128 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x4736 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S37x1024x128 .f32 := Memref.whole cc1_scratch0
abbrev scM1_1 : Memref sig .tc .vmem S1024x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r)) := by
  unfold Pipeline.ΦA; rw [scopedRest1_eq]; simp only [scM1_0, scM1_1, owns_whole]; try rfl

end Cert.Kernel.Hand

end
-- ==== Proof.Kernel.GateUpVal.lean ====
/- The values the gate and up projection body handles, whatever the float operations: a slice of the tiles
   scratch, the scratch with a slice replaced, and the codes of all tiles as one array. -/
module

public import proofs.«01_k».proof.Proof.Kernel.GateUpBase
public import Idealize.ShloMosaic.Lib.Pointwise
public import Idealize.ShloMosaic.Lib.VecWindow
public import Idealize.ShloMosaic.Lib.WholeRead

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of slice `k` of the tiles' scratch. -/
abbrev sliceRect (k : Fin 37) : Rect S37x1024x128 :=
  Rect.unit (s := S37x1024x128) ![k.val, 0, 0] S1x1024x128.size (by intro a; have := k.isLt; fin_cases a <;> simp [S1x1024x128, S37x1024x128] <;> omega)

/-- Slice `k` of the scratch, as the body loads it. -/
def sliceAt (k : Fin 37) (s : Vec F S37x1024x128 .f32) : Vec F S1x1024x128 .f32 := fun y => s (ix3 k (y 1) (y 2))

/-- The scratch with slice `k` replaced by a tile. -/
def putSlice (k : Fin 37) (s : Vec F S37x1024x128 .f32) (w : Vec F S1x1024x128 .f32) : Vec F S37x1024x128 .f32 :=
  fun y => if (y 0).val = k.val then w (ix3 0 (y 1) (y 2)) else s y

/-- The inverse scale of each row, off the row's running maxima. -/
def invOf (mx : Vec F S1024x128 .f32) : Vec F S1024x1 .f32 := k1_pay6 (F := F) 255#32 (k1_pay4 mx)

/-- The scale of each row, off the row's running maxima. -/
def scaleOf (mx : Vec F S1024x128 .f32) : Vec F S1024x1 .f32 := k1_pay5 (F := F) (k1_pay3 mx)

/-- The codes of all tiles, under one inverse scale per row: column `c` is column `c % 128` of tile `c / 128`. -/
def codesOf (inv : Vec F S1024x1 .f32) (s : Vec F S37x1024x128 .f32) : Vec F S1024x4736 .fp8e4m3 :=
  fun y => k1_pay1 inv (sliceAt ⟨(y 1).val / 128, by have : (y 1).val < 4736 := (y 1).isLt; omega⟩ s)
    (ix2 (y 0) ⟨(y 1).val % 128, Nat.mod_lt _ (by decide)⟩)

theorem sliceAt_eq (k : Fin 37) (s : Vec F S37x1024x128 .f32) (w : Vec F S1x1024x128 .f32)
    (h : ∀ (a : Fin 1024) (b : Fin 128), w (ix3 0 a b) = s (ix3 k a b)) : w = sliceAt k s := by
  funext y
  idx_vars y
  obtain rfl : y0 = 0 := Subsingleton.elim _ _
  exact h _ _

/-- A store of a tile's codes at columns `128 k …` is a block of `codesOf`. -/
theorem codes_piece (k : Fin 37) (inv : Vec F S1024x1 .f32) (s : Vec F S37x1024x128 .f32) (w : Vec F S1x1024x128 .f32)
    (hw : ∀ (a : Fin 1024) (b : Fin 128), w (ix3 0 a b) = s (ix3 k a b))
    (off : Fin 2 → ℕ) (inb : ∀ a, off a + S1024x128.size a ≤ S1024x4736.size a) (h0 : off 0 = 0) (h1 : off 1 = 128 * k.val)
    (x : (Rect.unit (s := S1024x4736) off S1024x128.size inb).shape.Idx) :
    k1_pay1 inv w x = codesOf inv s ((Rect.unit (s := S1024x4736) off S1024x128.size inb).emb x) := by
  obtain rfl := sliceAt_eq k s w hw
  have e0 : (((Rect.unit (s := S1024x4736) off S1024x128.size inb).emb x) 0).val = (x 0).val := by
    show off 0 + 1 * (x 0).val = (x 0).val
    rw [h0]; omega
  have e1 : (((Rect.unit (s := S1024x4736) off S1024x128.size inb).emb x) 1).val = 128 * k.val + (x 1).val := by
    show off 1 + 1 * (x 1).val = _
    rw [h1]; omega
  have hx : (x 1).val < 128 := (x 1).isLt
  unfold codesOf
  congr 1
  · congr 1
    exact Fin.ext (by show k.val = _ / 128; rw [e1]; omega)
  · funext a
    match a with
    | ⟨0, _⟩ => exact Fin.ext e0.symm
    | ⟨1, _⟩ => exact Fin.ext (by show (x 1).val = _ % 128; rw [e1]; omega)

/-- Storing a tile at slice `k` of the scratch. -/
theorem read_putSlice (v : View sig .tc .vmem S37x1024x128 .f32) (f : v.ty.Contents (Elt F)) (k : Fin 37) (off : Fin 3 → ℕ)
    (inb : ∀ a, off a + S1x1024x128.size a ≤ S37x1024x128.size a) (h : off = ![k.val, 0, 0]) (w : Vec F S1x1024x128 .f32) :
    v.read (Elt F) (v.writes (Elt F) f [⟨Rect.unit (s := S37x1024x128) off S1x1024x128.size inb, w⟩]) = putSlice k (v.read (Elt F) f) w := by
  funext y
  unfold putSlice
  split
  next hy =>
    refine View.read_writes_cons_unit_of_mem v f inb w [] y (ix3 0 (y 1) (y 2)) h fun a => ?_
    match a with
    | ⟨0, _⟩ => exact hy
    | ⟨1, _⟩ => exact (Nat.zero_add _).symm
    | ⟨2, _⟩ => exact (Nat.zero_add _).symm
  next hy =>
    refine (View.read_writes_cons_unit_of_not_mem v f inb w [] y h 0 ?_).trans rfl
    show (y 0).val < k.val ∨ k.val + 1 ≤ (y 0).val
    omega

/-- A load of a whole buffer is its contents. -/
theorem readAt_whole {S : Shape} {e : EltTy} (arg : Memref sig .tc .vmem S e) (h : arg.IsWhole) (X : Vec F S e) (off : Fin S.rank → ℕ)
    (inb : ∀ a, off a + S.size a ≤ S.size a) (hz : ∀ a, off a = 0) :
    View.readAt (Elt F) arg.view (Rect.unit (s := S) off S.size inb).toLoadRect (h.unread X) = X := by
  funext x
  rw [h.readAt_unread]
  congr 1
  funext a
  exact Fin.ext (by show off a + 1 * (x a).val = _; rw [hz a]; omega)

/-- A store over a whole buffer leaves what it stores. -/
theorem read_store_whole {S : Shape} {e : EltTy} (v : View sig .tc .vmem S e) (f : v.ty.Contents (Elt F)) (off : Fin S.rank → ℕ)
    (inb : ∀ a, off a + S.size a ≤ S.size a) (hz : ∀ a, off a = 0) (X : Vec F S e) :
    v.read (Elt F) (v.writes (Elt F) f [⟨Rect.unit (s := S) off S.size inb, X⟩]) = X := by
  funext y
  exact View.read_writes_cons_unit_of_mem v f inb X [] y y rfl fun a => by rw [hz a, Nat.zero_add]

/-- A load of a whole buffer after a store over the whole of it. -/
theorem load_store_whole {S : Shape} {e : EltTy} (v : View sig .tc .vmem S e) (off off' : Fin S.rank → ℕ)
    (inb : ∀ a, off a + S.size a ≤ S.size a) (inb' : ∀ a, off' a + S.size a ≤ S.size a) (h : off = off') (X : Vec F S e) :
    v.readCov [⟨Rect.unit (s := S) off S.size inb, X⟩] (Rect.unit (s := S) off' S.size inb').toLoadRect = X := by
  subst h
  exact View.readCov_cons_toLoadRect v (Rect.unit (s := S) off S.size inb) X []

/-- The codes of a tile loaded before the last one was stored. -/
theorem codes_old (arg : Memref sig .tc .vmem S37x1024x128 .f32) (h : arg.IsWhole) (s : Vec F S37x1024x128 .f32) (t : Vec F S1x1024x128 .f32)
    {inv inv' : Vec F S1024x1 .f32} (hinv : inv' = inv)
    (off : Fin 2 → ℕ) (inb : ∀ a, off a + S1024x128.size a ≤ S1024x4736.size a)
    (off3 : Fin 3 → ℕ) (inb3 : ∀ a, off3 a + S1x1024x128.size a ≤ S37x1024x128.size a)
    (h0 : off 0 = 0) (h1 : off 1 = 128 * off3 0) (hk : off3 0 < 36) (h31 : off3 1 = 0) (h32 : off3 2 = 0)
    (x : (Rect.unit (s := S1024x4736) off S1024x128.size inb).shape.Idx) :
    k1_pay1 inv' (View.readAt (Elt F) arg.view (Rect.unit (s := S37x1024x128) off3 S1x1024x128.size inb3).toLoadRect (h.unread s)) x
      = codesOf inv (putSlice 36 s t) ((Rect.unit (s := S1024x4736) off S1024x128.size inb).emb x) := by
  subst hinv
  refine codes_piece ⟨off3 0, by omega⟩ _ _ _ (fun a b => ?_) off inb h0 h1 x
  rw [h.readAt_unread]
  have hne : ¬ off3 0 = 36 := by omega
  show s _ = if off3 0 = 36 then _ else s _
  rw [if_neg hne]
  congr 1
  funext d
  match d with
  | ⟨0, _⟩ => exact Fin.ext (by show off3 0 + 1 * 0 = off3 0; omega)
  | ⟨1, _⟩ => exact Fin.ext (by show off3 1 + 1 * a.val = a.val; omega)
  | ⟨2, _⟩ => exact Fin.ext (by show off3 2 + 1 * b.val = b.val; omega)

/-- The codes of the tile stored last. -/
theorem codes_new (v : View sig .tc .vmem S37x1024x128 .f32) (s : Vec F S37x1024x128 .f32) (t t' : Vec F S1x1024x128 .f32) (ht : t' = t)
    {inv inv' : Vec F S1024x1 .f32} (hinv : inv' = inv)
    (off : Fin 2 → ℕ) (inb : ∀ a, off a + S1024x128.size a ≤ S1024x4736.size a)
    (off3 off3' : Fin 3 → ℕ) (inb3 : ∀ a, off3 a + S1x1024x128.size a ≤ S37x1024x128.size a) (inb3' : ∀ a, off3' a + S1x1024x128.size a ≤ S37x1024x128.size a)
    (h3 : off3 = off3') (h0 : off 0 = 0) (h1 : off 1 = 4608)
    (x : (Rect.unit (s := S1024x4736) off S1024x128.size inb).shape.Idx) :
    k1_pay1 inv' (v.readCov [⟨Rect.unit (s := S37x1024x128) off3 S1x1024x128.size inb3, t'⟩] (Rect.unit (s := S37x1024x128) off3' S1x1024x128.size inb3').toLoadRect) x
      = codesOf inv (putSlice 36 s t) ((Rect.unit (s := S1024x4736) off S1024x128.size inb).emb x) := by
  subst hinv; subst h3; subst ht
  rw [View.readCov_cons_toLoadRect v (Rect.unit (s := S37x1024x128) off3 S1x1024x128.size inb3) t' []]
  exact codes_piece 36 _ _ _ (fun a b => (if_pos rfl).symm) off inb h0 h1 x

theorem zero2 : ∀ a : Fin 2, (![0, 0] : Fin 2 → ℕ) a = 0 := by decide
theorem zero3 : ∀ a : Fin 3, (![0, 0, 0] : Fin 3 → ℕ) a = 0 := by decide

end Cert.Kernel.Hand

end
-- ==== Proof.Kernel.GateUpRun.lean ====
/- The gate and up projection body at the points before the last. -/
module

public import proofs.«01_k».proof.Proof.Kernel.GateUpVal

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at the first point: its tile into its slice, the running maximum set. -/
theorem run_first (c : Dev nD) (E : Set ℕ) (i : grid1.Coords) (arg1 : Memref sig .tc .vmem S1024x3584 .fp8e4m3) (harg1 : arg1.IsWhole) (arg2 : Memref sig .tc .vmem S1024x1 .f32) (harg2 : arg2.IsWhole) (arg3 : Memref sig .tc .vmem S3584x128 .fp8e4m3) (harg3 : arg3.IsWhole) (arg4 : Memref sig .tc .vmem S3584x128 .fp8e4m3) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1024x4736 .fp8e4m3) (harg7 : arg7.IsWhole) (arg8 : Memref sig .tc .vmem S1024x1 .f32) (harg8 : arg8.IsWhole) (arg9 : Memref sig .tc .vmem S37x1024x128 .f32) (harg9 : arg9.IsWhole) (arg10 : Memref sig .tc .vmem S1024x128 .f32) (harg10 : arg10.IsWhole)
    (hc0 : cond1_0 i) (hc1 : ¬cond1_1 i) (hc2 : ¬cond1_2 i) (k : Fin 37) (hoff : k1_off1 i = ![k.val, 0, 0])
    (x0 : Vec F S1024x3584 .fp8e4m3) (x1 : Vec F S1024x1 .f32) (x2 : Vec F S3584x128 .fp8e4m3) (x3 : Vec F S3584x128 .fp8e4m3) (x4 : Vec F S1x1x128 .f32) (x5 : Vec F S1x1x128 .f32) (xs0 : Vec F S37x1024x128 .f32) (xs1 : Vec F S1024x128 .f32) (x6 : Vec F S1024x4736 .fp8e4m3) (x7 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (putSlice k xs0 (k1_pay51 x2 x3 x0 x1 x4 x5)) ∗ owns (c : Thread nD τ) arg10 fullShare (k1_pay52 x2 x3 x0 x1 x4 x5)) -∗ K ⟨⟩))
      ⊢ wp frame (wpE (defs₀ (F := F)) Variants.none c none) E (cc1_gate_up i arg1 harg1 arg2 harg2 arg3 harg3 arg4 harg4 arg5 harg5 arg6 harg6 arg7 harg7 arg8 harg8 arg9 harg9 arg10 harg10) K := by
  simp only [cc1_gate_up_eq_skeleton]; unfold cc1_gate_up_skel
  simp only [k1_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    rw [read_putSlice _ _ k _ _ hoff, harg9.read_unread, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]
  iexists _; isplitr
  swap; · iexact HS1
  ipureintro
  rw [read_store_whole _ _ _ _ zero2, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]

/-- The body at a point between: its tile into its slice, the running maximum extended. -/
theorem run_mid (c : Dev nD) (E : Set ℕ) (i : grid1.Coords) (arg1 : Memref sig .tc .vmem S1024x3584 .fp8e4m3) (harg1 : arg1.IsWhole) (arg2 : Memref sig .tc .vmem S1024x1 .f32) (harg2 : arg2.IsWhole) (arg3 : Memref sig .tc .vmem S3584x128 .fp8e4m3) (harg3 : arg3.IsWhole) (arg4 : Memref sig .tc .vmem S3584x128 .fp8e4m3) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1024x4736 .fp8e4m3) (harg7 : arg7.IsWhole) (arg8 : Memref sig .tc .vmem S1024x1 .f32) (harg8 : arg8.IsWhole) (arg9 : Memref sig .tc .vmem S37x1024x128 .f32) (harg9 : arg9.IsWhole) (arg10 : Memref sig .tc .vmem S1024x128 .f32) (harg10 : arg10.IsWhole)
    (hc0 : ¬cond1_0 i) (hc1 : cond1_1 i) (hc2 : ¬cond1_2 i) (k : Fin 37) (hoff : k1_off1 i = ![k.val, 0, 0])
    (x0 : Vec F S1024x3584 .fp8e4m3) (x1 : Vec F S1024x1 .f32) (x2 : Vec F S3584x128 .fp8e4m3) (x3 : Vec F S3584x128 .fp8e4m3) (x4 : Vec F S1x1x128 .f32) (x5 : Vec F S1x1x128 .f32) (xs0 : Vec F S37x1024x128 .f32) (xs1 : Vec F S1024x128 .f32) (x6 : Vec F S1024x4736 .fp8e4m3) (x7 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (putSlice k xs0 (k1_pay51 x2 x3 x0 x1 x4 x5)) ∗ owns (c : Thread nD τ) arg10 fullShare (k1_pay53 x2 x3 x0 x1 x4 x5 xs1)) -∗ K ⟨⟩))
      ⊢ wp frame (wpE (defs₀ (F := F)) Variants.none c none) E (cc1_gate_up i arg1 harg1 arg2 harg2 arg3 harg3 arg4 harg4 arg5 harg5 arg6 harg6 arg7 harg7 arg8 harg8 arg9 harg9 arg10 harg10) K := by
  simp only [cc1_gate_up_eq_skeleton]; unfold cc1_gate_up_skel
  simp only [k1_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    rw [read_putSlice _ _ k _ _ hoff, harg9.read_unread, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]
  iexists _; isplitr
  swap; · iexact HS1
  ipureintro
  rw [read_store_whole _ _ _ _ zero2, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3, readAt_whole arg10 harg10 xs1 _ _ zero2]

end Cert.Kernel.Hand

end
-- ==== Proof.Kernel.GateUpLast.lean ====
/- The gate and up projection body at the last point. -/
module

public import proofs.«01_k».proof.Proof.Kernel.GateUpVal
public import Idealize.ShloMosaic.Lib.Pipeline.ReadBack

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at the last point: its tile into the last slice, the running maximum extended; then the scales from the
maximum and the codes of all tiles. -/
theorem run_last (c : Dev nD) (E : Set ℕ) (i : grid1.Coords) (arg1 : Memref sig .tc .vmem S1024x3584 .fp8e4m3) (harg1 : arg1.IsWhole) (arg2 : Memref sig .tc .vmem S1024x1 .f32) (harg2 : arg2.IsWhole) (arg3 : Memref sig .tc .vmem S3584x128 .fp8e4m3) (harg3 : arg3.IsWhole) (arg4 : Memref sig .tc .vmem S3584x128 .fp8e4m3) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1024x4736 .fp8e4m3) (harg7 : arg7.IsWhole) (arg8 : Memref sig .tc .vmem S1024x1 .f32) (harg8 : arg8.IsWhole) (arg9 : Memref sig .tc .vmem S37x1024x128 .f32) (harg9 : arg9.IsWhole) (arg10 : Memref sig .tc .vmem S1024x128 .f32) (harg10 : arg10.IsWhole)
    (hc0 : ¬cond1_0 i) (hc1 : cond1_1 i) (hc2 : cond1_2 i) (hoff : k1_off1 i = ![36, 0, 0])
    (x0 : Vec F S1024x3584 .fp8e4m3) (x1 : Vec F S1024x1 .f32) (x2 : Vec F S3584x128 .fp8e4m3) (x3 : Vec F S3584x128 .fp8e4m3) (x4 : Vec F S1x1x128 .f32) (x5 : Vec F S1x1x128 .f32) (xs0 : Vec F S37x1024x128 .f32) (xs1 : Vec F S1024x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (codesOf (invOf (k1_pay53 x2 x3 x0 x1 x4 x5 xs1)) (putSlice 36 xs0 (k1_pay51 x2 x3 x0 x1 x4 x5)))
            ∗ owns (c : Thread nD τ) arg8 fullShare (scaleOf (k1_pay53 x2 x3 x0 x1 x4 x5 xs1))
            ∗ owns (c : Thread nD τ) arg9 fullShare (putSlice 36 xs0 (k1_pay51 x2 x3 x0 x1 x4 x5)) ∗ owns (c : Thread nD τ) arg10 fullShare (k1_pay53 x2 x3 x0 x1 x4 x5 xs1)) -∗ K ⟨⟩))
      ⊢ wp frame (wpE (defs₀ (F := F)) Variants.none c none) E (cc1_gate_up i arg1 harg1 arg2 harg2 arg3 harg3 arg4 harg4 arg5 harg5 arg6 harg6 arg7 harg7 arg8 harg8 arg9 harg9 arg10 harg10) K := by
  letI : ClosedOff (k1_off1 i) := ⟨![36, 0, 0], hoff⟩
  simp only [cc1_gate_up_eq_skeleton]; unfold cc1_gate_up_skel
  simp only [k1_part13_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
  sl_exec (disch := first | sl_exact hc0 | sl_exact hc1 | sl_exact hc2)
  sl_step
  iapply Hk
  have hmx : run_last.sl.v38 c arg1 harg1 arg2 harg2 arg3 harg3 arg4 harg4 arg5 harg5 arg6 harg6 arg10 harg10 x0 x1 x2 x3 x4 x5 xs1 = k1_pay53 x2 x3 x0 x1 x4 x5 xs1 := by
    unfold run_last.sl.v38 run_last.sl.HS1_1
    rw [load_store_whole _ _ _ _ _ rfl, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3, readAt_whole arg10 harg10 xs1 _ _ zero2]
  have hinv : run_last.sl.r_2 c arg1 harg1 arg2 harg2 arg3 harg3 arg4 harg4 arg5 harg5 arg6 harg6 arg10 harg10 x0 x1 x2 x3 x4 x5 xs1 = invOf (k1_pay53 x2 x3 x0 x1 x4 x5 xs1) := by
    unfold run_last.sl.r_2 run_last.sl.r_1
    rw [hmx]; rfl
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    have ht : k1_pay51 (View.readAt (Elt F) arg3.view (Rect.unit ![0, 0] S3584x128.size inb_S3584x128_S3584x128_0_0).toLoadRect (harg3.unread x2))
        (View.readAt (Elt F) arg4.view (Rect.unit ![0, 0] S3584x128.size inb_S3584x128_S3584x128_0_0).toLoadRect (harg4.unread x3))
        (View.readAt (Elt F) arg1.view (Rect.unit ![0, 0] S1024x3584.size inb_S1024x3584_S1024x3584_0_0).toLoadRect (harg1.unread x0))
        (View.readAt (Elt F) arg2.view (Rect.unit ![0, 0] S1024x1.size inb_S1024x1_S1024x1_0_0).toLoadRect (harg2.unread x1))
        (View.readAt (Elt F) arg5.view (Rect.unit ![0, 0, 0] S1x1x128.size inb_S1x1x128_S1x1x128_0_0_0).toLoadRect (harg5.unread x4))
        (View.readAt (Elt F) arg6.view (Rect.unit ![0, 0, 0] S1x1x128.size inb_S1x1x128_S1x1x128_0_0_0).toLoadRect (harg6.unread x5))
        = k1_pay51 x2 x3 x0 x1 x4 x5 := by
      rw [readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]
    funext y
    refine View.read_writes_apply_of_pieces _ _ (codesOf (invOf (k1_pay53 x2 x3 x0 x1 x4 x5 xs1)) (putSlice 36 xs0 (k1_pay51 x2 x3 x0 x1 x4 x5))) _
      (View.PiecesOf.mem ?_) y ?_
    swap; · exact View.cover_of_tiledL (s := S1024x4736) _ S1024x128.size (by sl_kernel_rfl) y
    refine ⟨fun x => codes_new arg9.view xs0 _ _ ht hinv _ (by decide) _ _ (hoff ▸ by decide) (by decide) hoff rfl rfl x, ?_⟩
    repeat' first
      | exact trivial
      | refine ⟨fun x => codes_old arg9 harg9 xs0 _ hinv _ (by decide) _ (by decide) rfl rfl (by decide) rfl rfl x, ?_⟩
  isplitl [H7]
  · iexists _; isplitr
    swap; · iexact H7
    ipureintro
    unfold run_last.sl.r
    rw [read_store_whole _ _ _ _ zero2, hmx]; rfl
  isplitl [HS0]
  · iexists _; isplitr
    swap; · iexact HS0
    ipureintro
    unfold run_last.sl.HS0_1
    rw [read_putSlice _ _ 36 _ _ hoff, harg9.read_unread, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]
  iexists _; isplitr
  swap; · iexact HS1
  ipureintro
  unfold run_last.sl.HS1_1
  rw [read_store_whole _ _ _ _ zero2, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3, readAt_whole arg10 harg10 xs1 _ _ zero2]

end Cert.Kernel.Hand
-- ==== Proof.Kernel.GateUp.lean ====
/- The gate and up projection region: what its scratch buffers hold between points, its proof data, and its body
   obligation. -/
module

public import proofs.«01_k».proof.Proof.Kernel.GateUpRun
public import proofs.«01_k».proof.Proof.Kernel.GateUpLast

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the scratch buffers hold -/

/-- Point `n` of the grid. -/
def pt (n : ℕ) : Fin cfg1.N := ⟨n % 37, lt_of_lt_of_eq (Nat.mod_lt _ (by decide)) (show 37 = cfg1.N from N_1.symm)⟩

theorem pt_val (t : Fin cfg1.N) : pt t.val = t :=
  Fin.ext (Nat.mod_eq_of_lt (lt_of_lt_of_eq t.isLt (show cfg1.N = 37 from N_1)))

/-- The tile of hidden values the body computes at point `t`. -/
def tileAt (c : Dev nD) (t : Fin cfg1.N) : Vec F S1x1024x128 .f32 := k1_pay51 (iblk1 V c 2 t) (iblk1 V c 3 t) (iblk1 V c 0 t) (iblk1 V c 1 t) (iblk1 V c 4 t) (iblk1 V c 5 t)

/-- All the tiles, one slice a point. -/
def tilesAll (c : Dev nD) : Vec F S37x1024x128 .f32 := fun y => tileAt V c (pt (y 0).val) (ix3 0 (y 1) (y 2))

/-- The running maximum after point `n`. -/
def maxAt (c : Dev nD) : ℕ → Vec F S1024x128 .f32
  | 0 => k1_pay52 (iblk1 V c 2 (pt 0)) (iblk1 V c 3 (pt 0)) (iblk1 V c 0 (pt 0)) (iblk1 V c 1 (pt 0)) (iblk1 V c 4 (pt 0)) (iblk1 V c 5 (pt 0))
  | n + 1 => k1_pay53 (iblk1 V c 2 (pt (n + 1))) (iblk1 V c 3 (pt (n + 1))) (iblk1 V c 0 (pt (n + 1))) (iblk1 V c 1 (pt (n + 1))) (iblk1 V c 4 (pt (n + 1))) (iblk1 V c 5 (pt (n + 1))) (maxAt c n)

/-- The tile scratch after `n` points: the slices written so far hold their tiles. -/
def Tiles (c : Dev nD) (n : ℕ) (f : Vec F S37x1024x128 .f32) : Prop := ∀ y, (y 0).val < n → f y = tilesAll V c y

/-- The maximum scratch after `n` points: the running maximum, once a point has run. -/
def Maxes (c : Dev nD) (n : ℕ) (g : Vec F S1024x128 .f32) : Prop := 0 < n → g = maxAt V c (n - 1)

theorem Tiles.step {c : Dev nD} {f : Vec F S37x1024x128 .f32} (t : Fin cfg1.N) (hN : t.val < 37) (h : Tiles V c t.val f) :
    Tiles V c (t.val + 1) (putSlice ⟨t.val, hN⟩ f (tileAt V c t)) := by
  intro y hy
  unfold putSlice
  split
  next e =>
    unfold tilesAll
    rw [e]
    show tileAt V c t _ = tileAt V c (pt t.val) _
    rw [pt_val]
  next e => exact h y (by have : ¬ (y 0).val = t.val := e; omega)

/-- After the last point every slice holds its tile. -/
theorem Tiles.all {c : Dev nD} {f : Vec F S37x1024x128 .f32} (h : Tiles V c 37 f) : f = tilesAll V c :=
  funext fun y => h y (y 0).isLt

theorem Maxes.first (c : Dev nD) (t : Fin cfg1.N) (h0 : t.val = 0) : Maxes V c (t.val + 1) (k1_pay52 (iblk1 V c 2 t) (iblk1 V c 3 t) (iblk1 V c 0 t) (iblk1 V c 1 t) (iblk1 V c 4 t) (iblk1 V c 5 t)) := by
  intro _
  have e : t = pt 0 := by rw [← h0, pt_val]
  rw [h0, e]; rfl

theorem Maxes.step {c : Dev nD} {g : Vec F S1024x128 .f32} (t : Fin cfg1.N) (h1 : 1 ≤ t.val) (h : Maxes V c t.val g) :
    Maxes V c (t.val + 1) (k1_pay53 (iblk1 V c 2 t) (iblk1 V c 3 t) (iblk1 V c 0 t) (iblk1 V c 1 t) (iblk1 V c 4 t) (iblk1 V c 5 t) g) := by
  intro _
  rw [h h1]
  obtain ⟨n, hn⟩ := Nat.exists_eq_add_of_le' h1
  have e : pt (n + 1) = t := by rw [← hn, pt_val]
  rw [hn]
  show _ = maxAt V c (n + 1)
  rw [maxAt, e]; rfl

/-! ## The pipeline's proof data -/

/-- What the region holds between points beside its windows: the other buffers at some contents, the two scratch
    buffers at what the points so far left, the generator register. -/
def PhiS (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f, ⌜Tiles V c n f⌝ ∗ owns (c : Thread nD τ) scM1_0 fullShare f) ∗ (∃ g, ⌜Maxes V c n g⌝ ∗ owns (c : Thread nD τ) scM1_1 fullShare g) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r))

/-- The codes of the hidden values and their scales, as the last point leaves them. -/
def codesLast (c : Dev nD) : Vec F S1024x4736 .fp8e4m3 := codesOf (invOf (maxAt V c 36)) (tilesAll V c)
def scaleLast (c : Dev nD) : Vec F S1024x1 .f32 := scaleOf (maxAt V c 36)

/-- The proof data of the region on core `c`: the arrays as the region finds them; each input's buffer at its block; the
    outputs' at what the last point leaves (they are idle before it); the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => codesLast V c
    | ⟨7, _⟩ => scaleLast V c
  Φ t := PhiS V c t.val
  q w := Pipeline.shareOf spec1 w
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = codesLast V c := by dsimp only [dat1]
theorem after1_7 (c : Dev nD) (t : Fin cfg1.N) : (dat1 V c).after 7 t = scaleLast V c := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What each input's buffer is left at. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]

theorem Phi1_castSucc (c : Dev nD) (t : Fin cfg1.N) : (dat1 V c).Φ t.castSucc = PhiS V c t.val := by dsimp only [dat1]; rfl
theorem Phi1_succ (c : Dev nD) (t : Fin cfg1.N) : (dat1 V c).Φ t.succ = PhiS V c (t.val + 1) := by dsimp only [dat1]; rfl

/-- The launch's invariant is the region's before the first point; -/
theorem hin1 (c : Dev nD) : Pipeline.ΦA spec1 c ⊢ (dat1 V c).Φ 0 := by
  rw [show (dat1 V c).Φ 0 = PhiS V c 0 from by dsimp only [dat1]; rfl, PhiA1_eq]
  unfold PhiS
  iintro ⟨⟨HR0, HR1, HR2, HR3, HR4, HR5, ⟨%f, HS0⟩, ⟨%g, HS1⟩, HR8, HR9, HR10, HR11, HR12, HR13, HR14, HR15⟩, Hg⟩
  isplitl [HR0 HR1 HR2 HR3 HR4 HR5 HS0 HS1 HR8 HR9 HR10 HR11 HR12 HR13 HR14 HR15]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists f; isplitr; (· ipureintro; exact fun _ h => absurd h (Nat.not_lt_zero _)); iexact HS0
    isplitl [HS1]; · iexists g; isplitr; (· ipureintro; exact fun h => absurd h (Nat.lt_irrefl _)); iexact HS1
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexact HR15
  iexact Hg

/-- and what the last point leaves is the launch's again. -/
theorem hout1 (c : Dev nD) : (dat1 V c).Φ (Fin.last cfg1.N) ⊢ Pipeline.ΦA spec1 c := by
  rw [show (dat1 V c).Φ (Fin.last cfg1.N) = PhiS V c cfg1.N from by dsimp only [dat1]; rfl, PhiA1_eq]
  unfold PhiS
  iintro ⟨⟨HR0, HR1, HR2, HR3, HR4, HR5, ⟨%f, %hf, HS0⟩, ⟨%g, %hg, HS1⟩, HR8, HR9, HR10, HR11, HR12, HR13, HR14, HR15⟩, Hg⟩
  isplitl [HR0 HR1 HR2 HR3 HR4 HR5 HS0 HS1 HR8 HR9 HR10 HR11 HR12 HR13 HR14 HR15]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexact HR15
  iexact Hg

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- The body at the first point. -/
theorem sound_first (c : Dev nD) (t : Fin cfg1.N) (h0 : t.val = 0) :
    bodyPre1 V c t ⊢ wp frame (wpE (defs₀ (F := F)) Variants.none c none) Set.univ (bodyAt1 t) (fun _ => bodyPost1 V c t) := by
  have hN : t.val < 37 := lt_of_lt_of_eq t.isLt (show cfg1.N = 37 from N_1)
  unfold bodyPre1 bodyPost1 bodyAt1
  simp only [before1_0, before1_1, before1_2, before1_3, before1_4, before1_5]
  rw [leaves1_0, leaves1_1, leaves1_2, leaves1_3, leaves1_4, leaves1_5, Dat.leavesExact_idle (dat1 V c) 6 t (idleAt1_6_A t ((hcond1_0 t).mpr (by omega)) (fun h => by have := (hcond1_1 t).mp h; omega) (fun h => by have := (hcond1_2 t).mp h; omega)) (noFlush1_6_A t ((hcond1_0 t).mpr (by omega)) (fun h => by have := (hcond1_1 t).mp h; omega) (fun h => by have := (hcond1_2 t).mp h; omega)), Dat.leavesExact_idle (dat1 V c) 7 t (idleAt1_7_A t ((hcond1_0 t).mpr (by omega)) (fun h => by have := (hcond1_1 t).mp h; omega) (fun h => by have := (hcond1_2 t).mp h; omega)) (noFlush1_7_A t ((hcond1_0 t).mpr (by omega)) (fun h => by have := (hcond1_1 t).mp h; omega) (fun h => by have := (hcond1_2 t).mp h; omega))]
  rw [show (dat1 V c).owesAt () t.succ = (dat1 V c).owesAt () t.castSucc from rfl, Phi1_castSucc, Phi1_succ]
  unfold PhiS
  iintro ⟨⟨⟨HR0, HR1, HR2, HR3, HR4, HR5, ⟨%f, %hf, HS0⟩, ⟨%g, %hg, HS1⟩, HR8, HR9, HR10, HR11, HR12, HR13, HR14, HR15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr (by omega)) (fun h => by have := (hcond1_1 t).mp h; omega) (fun h => by have := (hcond1_2 t).mp h; omega) ⟨t.val, hN⟩ (off1_eq t) (iblk1 V c 0 t) (iblk1 V c 1 t) (iblk1 V c 2 t) (iblk1 V c 3 t) (iblk1 V c 4 t) (iblk1 V c 5 t) f g _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 HR8 HR9 HR10 HR11 HR12 HR13 HR14 HR15 Hg]
  · isplitl [HR0 HR1 HR2 HR3 HR4 HR5 HS0 HS1 HR8 HR9 HR10 HR11 HR12 HR13 HR14 HR15]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexists _; isplitr; (· ipureintro; exact hf.step V t hN); iexact HS0
      isplitl [HS1]; · iexists _; isplitr; (· ipureintro; exact Maxes.first V c t h0); iexact HS1
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      iexact HR15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

/-- The body at a point between the first and the last. -/
theorem sound_mid (c : Dev nD) (t : Fin cfg1.N) (h1 : 1 ≤ t.val) (h2 : t.val < 36) :
    bodyPre1 V c t ⊢ wp frame (wpE (defs₀ (F := F)) Variants.none c none) Set.univ (bodyAt1 t) (fun _ => bodyPost1 V c t) := by
  have hN : t.val < 37 := lt_of_lt_of_eq t.isLt (show cfg1.N = 37 from N_1)
  unfold bodyPre1 bodyPost1 bodyAt1
  simp only [before1_0, before1_1, before1_2, before1_3, before1_4, before1_5]
  rw [leaves1_0, leaves1_1, leaves1_2, leaves1_3, leaves1_4, leaves1_5, Dat.leavesExact_idle (dat1 V c) 6 t (idleAt1_6_B t (fun h => by have := (hcond1_0 t).mp h; omega) ((hcond1_1 t).mpr (by omega)) (fun h => by have := (hcond1_2 t).mp h; omega)) (noFlush1_6_B t (fun h => by have := (hcond1_0 t).mp h; omega) ((hcond1_1 t).mpr (by omega)) (fun h => by have := (hcond1_2 t).mp h; omega)), Dat.leavesExact_idle (dat1 V c) 7 t (idleAt1_7_B t (fun h => by have := (hcond1_0 t).mp h; omega) ((hcond1_1 t).mpr (by omega)) (fun h => by have := (hcond1_2 t).mp h; omega)) (noFlush1_7_B t (fun h => by have := (hcond1_0 t).mp h; omega) ((hcond1_1 t).mpr (by omega)) (fun h => by have := (hcond1_2 t).mp h; omega))]
  rw [show (dat1 V c).owesAt () t.succ = (dat1 V c).owesAt () t.castSucc from rfl, Phi1_castSucc, Phi1_succ]
  unfold PhiS
  iintro ⟨⟨⟨HR0, HR1, HR2, HR3, HR4, HR5, ⟨%f, %hf, HS0⟩, ⟨%g, %hg, HS1⟩, HR8, HR9, HR10, HR11, HR12, HR13, HR14, HR15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_mid c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => by have := (hcond1_0 t).mp h; omega) ((hcond1_1 t).mpr (by omega)) (fun h => by have := (hcond1_2 t).mp h; omega) ⟨t.val, hN⟩ (off1_eq t) (iblk1 V c 0 t) (iblk1 V c 1 t) (iblk1 V c 2 t) (iblk1 V c 3 t) (iblk1 V c 4 t) (iblk1 V c 5 t) f g _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 HR8 HR9 HR10 HR11 HR12 HR13 HR14 HR15 Hg]
  · isplitl [HR0 HR1 HR2 HR3 HR4 HR5 HS0 HS1 HR8 HR9 HR10 HR11 HR12 HR13 HR14 HR15]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexists _; isplitr; (· ipureintro; exact hf.step V t hN); iexact HS0
      isplitl [HS1]; · iexists _; isplitr; (· ipureintro; exact hg.step V t h1); iexact HS1
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      iexact HR15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

/-- The body at the last point. -/
theorem sound_last (c : Dev nD) (t : Fin cfg1.N) (h36 : t.val = 36) :
    bodyPre1 V c t ⊢ wp frame (wpE (defs₀ (F := F)) Variants.none c none) Set.univ (bodyAt1 t) (fun _ => bodyPost1 V c t) := by
  have hN : t.val < 37 := lt_of_lt_of_eq t.isLt (show cfg1.N = 37 from N_1)
  have e6 : (dat1 V c).leavesExact 6 t = owns (c : Thread nD τ) (ms1_6 t) fullShare (codesLast V c) := by
    unfold Dat.leavesExact; rw [liveAt1_6_C t (fun h => by have := (hcond1_0 t).mp h; omega) ((hcond1_1 t).mpr (by omega)) ((hcond1_2 t).mpr (by omega)), after1_6]
  have e7 : (dat1 V c).leavesExact 7 t = owns (c : Thread nD τ) (ms1_7 t) fullShare (scaleLast V c) := by
    unfold Dat.leavesExact; rw [liveAt1_7_C t (fun h => by have := (hcond1_0 t).mp h; omega) ((hcond1_1 t).mpr (by omega)) ((hcond1_2 t).mpr (by omega)), after1_7]
  unfold bodyPre1 bodyPost1 bodyAt1
  simp only [before1_0, before1_1, before1_2, before1_3, before1_4, before1_5]
  rw [leaves1_0, leaves1_1, leaves1_2, leaves1_3, leaves1_4, leaves1_5, e6, e7]
  rw [show (dat1 V c).owesAt () t.succ = (dat1 V c).owesAt () t.castSucc from rfl, Phi1_castSucc, Phi1_succ]
  unfold PhiS
  iintro ⟨⟨⟨HR0, HR1, HR2, HR3, HR4, HR5, ⟨%f, %hf, HS0⟩, ⟨%g, %hg, HS1⟩, HR8, HR9, HR10, HR11, HR12, HR13, HR14, HR15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hM := hg.step V t (by omega)
  have hT : Tiles V c (t.val + 1) (putSlice 36 f (tileAt V c t)) := by
    have := hf.step V t hN
    rwa [show (⟨t.val, hN⟩ : Fin 37) = 36 from Fin.ext h36] at this
  have eM : k1_pay53 (iblk1 V c 2 t) (iblk1 V c 3 t) (iblk1 V c 0 t) (iblk1 V c 1 t) (iblk1 V c 4 t) (iblk1 V c 5 t) g = maxAt V c 36 := by
    have := hM (by omega)
    rwa [h36] at this
  have eT : putSlice 36 f (tileAt V c t) = tilesAll V c := Tiles.all V (by rwa [h36] at hT)
  unfold codesLast scaleLast
  rw [← eM, ← eT]
  iapply (run_last c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => by have := (hcond1_0 t).mp h; omega) ((hcond1_1 t).mpr (by omega)) ((hcond1_2 t).mpr (by omega)) ((off1_eq t).trans (by rw [h36])) (iblk1 V c 0 t) (iblk1 V c 1 t) (iblk1 V c 2 t) (iblk1 V c 3 t) (iblk1 V c 4 t) (iblk1 V c 5 t) f g _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 HR8 HR9 HR10 HR11 HR12 HR13 HR14 HR15 Hg]
  · isplitl [HR0 HR1 HR2 HR3 HR4 HR5 HS0 HS1 HR8 HR9 HR10 HR11 HR12 HR13 HR14 HR15]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexists _; isplitr; (· ipureintro; exact hT); iexact HS0
      isplitl [HS1]; · iexists _; isplitr; (· ipureintro; exact hM); iexact HS1
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      iexact HR15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 37 := lt_of_lt_of_eq t.isLt (show cfg1.N = 37 from N_1)
  rcases Nat.eq_zero_or_pos t.val with h0 | h1
  · exact sound_first V c t h0
  rcases Nat.lt_or_ge t.val 36 with h2 | h2
  · exact sound_mid V c t h1 h2
  exact sound_last V c t (by omega)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.Kernel.Down.lean ====
/- The down projection region (custom_call 2) at any contents it is entered with: what its body leaves in the
   output block, the proof data of its pipeline and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x4736 := Rect.unit (s := S1024x4736) ![0, 0] S1024x4736.size inb_S1024x4736_S1024x4736_0_0
abbrev r2_1 : Rect S4736x512 := Rect.unit (s := S4736x512) ![0, 0] S4736x512.size inb_S4736x512_S4736x512_0_0
abbrev r2_2 : Rect S1024x1 := Rect.unit (s := S1024x1) ![0, 0] S1024x1.size inb_S1024x1_S1024x1_0_0
abbrev r2_3 : Rect S1x512 := Rect.unit (s := S1x512) ![0, 0] S1x512.size inb_S1x512_S1x512_0_0
abbrev r2_4 : Rect S1024x512 := Rect.unit (s := S1024x512) ![0, 0] S1024x512.size inb_S1024x512_S1024x512_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1024x4736 .fp8e4m3) (x1 : Vec F S1024x1 .f32) (x2 : Vec F S4736x512 .fp8e4m3) (x3 : Vec F S1x512 .f32) : Vec F S1024x512 .bf16 :=
  View.canon [⟨r2_4, k2_pay1 (View.ld x0 r2_0) (View.ld x2 r2_1) (View.ld x1 r2_2) (View.ld x3 r2_3)⟩]

/-- Its stores tile the buffer (checked by evaluation), so they cover it. -/
theorem cover2_4 (p0 : Vec F S1024x512 .bf16) (y : S1024x512.Idx) :
    ∃ pc ∈ ([⟨r2_4, p0⟩] : List (View.Piece (Elt F) S1024x512 .bf16)), y ∈ pc.1.set :=
  View.cover_of_tiled [⟨r2_4, p0⟩] S1024x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S1024x4736 .fp8e4m3) (harg1 : arg1.IsWhole) (arg2 : Memref sig .tc .vmem S1024x1 .f32) (harg2 : arg2.IsWhole) (arg3 : Memref sig .tc .vmem S4736x512 .fp8e4m3) (harg3 : arg3.IsWhole) (arg4 : Memref sig .tc .vmem S1x512 .f32) (harg4 : arg4.IsWhole) (arg5 : Memref sig .tc .vmem S1024x512 .bf16) (harg5 : arg5.IsWhole)
    (x0 : Vec F S1024x4736 .fp8e4m3) (x1 : Vec F S1024x1 .f32) (x2 : Vec F S4736x512 .fp8e4m3) (x3 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2_down i arg1 harg1 arg2 harg2 arg3 harg3 arg4 harg4 arg5 harg5) K := by
  simp only [cc2_down_eq_skeleton]; unfold cc2_down_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Hand

end
-- ==== Proof.Kernel.Run.lean ====
/- The whole program: the buffer contents at every boundary between its host stretches and its three regions,
   each region as a segment, and the run from any launch memory. -/
module

public import proofs.«01_k».proof.Proof.Kernel.Quant
public import proofs.«01_k».proof.Proof.Kernel.GateUp
public import proofs.«01_k».proof.Proof.Kernel.Down
public import Idealize.ShloMosaic.Lib.Pipeline.RegionsLoop
public import Idealize.ShloMosaic.Lib.Pipeline.FrameSuffix

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    refine BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, every
    unscoped buffer ending at the last boundary's contents (`W6`) and every semaphore counter at zero: the kit's launch over
    the segments, the last thread state read against the final state (`pointsTo_read_all`). -/
theorem run : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- THE FRAME: the argument arrays end as launched (each by `W6_<arg>`) and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c)⟩, h.2⟩) (run m ρ)

end Cert.Kernel.Hand

end
-- ==== Proof.KernelIdeal.Quant.lean ====
/- The quantising region (custom_call 0) at any contents it is entered with: what its body leaves in each
   output block, the proof data of its pipeline and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x3584 := Rect.unit (s := S128x3584) ![0, 0] S128x3584.size inb_S128x3584_S128x3584_0_0
abbrev r0_1 : Rect S128x1 := Rect.unit (s := S128x1) ![0, 0] S128x1.size inb_S128x1_S128x1_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S128x3584 .bf16) : Vec F S128x3584 .fp8e4m3 :=
  View.canon [⟨r0_0, k0_pay2 (k0_pay3 (View.ld x0 r0_0)) (k0_pay6 (View.ld x0 r0_0))⟩]

/-- Its stores tile the buffer (checked by evaluation), so they cover it. -/
theorem cover0_1 (p0 : Vec F S128x3584 .fp8e4m3) (y : S128x3584.Idx) :
    ∃ pc ∈ ([⟨r0_0, p0⟩] : List (View.Piece (Elt F) S128x3584 .fp8e4m3)), y ∈ pc.1.set :=
  View.cover_of_tiled [⟨r0_0, p0⟩] S128x3584.size (by rfl) y

/-- Window 2's staging buffer after the body, from the input windows' blocks: its 1 store as pieces, LAST
    FIRST (Lib/Pipeline/FrameBody.lean `View.canon`; the payloads are the skeleton's). -/
def out0_2 (x0 : Vec F S128x3584 .bf16) : Vec F S128x1 .f32 :=
  View.canon [⟨r0_1, k0_pay1 (F := F) (k0_pay5 (View.ld x0 r0_0))⟩]

/-- Its stores tile the buffer (checked by evaluation), so they cover it. -/
theorem cover0_2 (p0 : Vec F S128x1 .f32) (y : S128x1.Idx) :
    ∃ pc ∈ ([⟨r0_1, p0⟩] : List (View.Piece (Elt F) S128x1 .f32)), y ∈ pc.1.set :=
  View.cover_of_tiled [⟨r0_1, p0⟩] S128x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S128x3584 .bf16) (harg1 : arg1.IsWhole) (arg2 : Memref sig .tc .vmem S128x3584 .fp8e4m3) (harg2 : arg2.IsWhole) (arg3 : Memref sig .tc .vmem S128x1 .f32) (harg3 : arg3.IsWhole)
    (x0 : Vec F S128x3584 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quantise_x i arg1 harg1 arg2 harg2 arg3 harg3) K := by
  simp only [cc0_quantise_x_eq_skeleton]; unfold cc0_quantise_x_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.GateUpBase.lean ====
/- The gate and up projection region (custom_call 1): its input blocks, the branch conditions of its body in
   closed form, where its output windows are idle, and its staging and scratch memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 37 = 0 :=
  (fun t => by
    have ht : t.val < 37 := Nat.lt_of_lt_of_eq t.isLt N_1
    have e0 : (grid1.coords t 0).val = t.val / 1 % 37 := Pipeline.Grid.coords_val t 0 (by decide) rfl
    simp only [cond1_0, e0]
    word_cmp
   : ∀ t : Fin grid1.N, cond1_0 (grid1.coords t) ↔ t.val % 37 = 0)

/-- The condition of the body's `scf.if` 1 (`k1_h2`), from the grid coordinates (the skeleton's scalar
    chain substituted). -/
abbrev cond1_1 (i : grid1.Coords) : Prop := (Scalar.cmpi .ne (Scalar.extui (Scalar.cmpi .sgt (BitVec.ofNat 32 (i 0).val) 0#32)) 0#32) = 1#1
/-- It holds at the points from point 1 on — decided over the grid. -/
theorem hcond1_1 : ∀ t : Fin cfg1.N, cond1_1 (grid1.coords t) ↔ 1 ≤ t.val :=
  (by decide +kernel : ∀ t : Fin grid1.N, cond1_1 (grid1.coords t) ↔ 1 ≤ t.val)

/-- The condition of the body's `scf.if` 2 (`k1_h3`), from the grid coordinates (the skeleton's scalar
    chain substituted). -/
abbrev cond1_2 (i : grid1.Coords) : Prop := k1_cond3 i = 1#1
/-- It holds at the last point only — by arithmetic of the point. -/
theorem hcond1_2 : ∀ t : Fin cfg1.N, cond1_2 (grid1.coords t) ↔ t.val % 37 = 36 :=
  (fun t => by
    have ht : t.val < 37 := Nat.lt_of_lt_of_eq t.isLt N_1
    have e0 : (grid1.coords t 0).val = t.val / 1 % 37 := Pipeline.Grid.coords_val t 0 (by decide) rfl
    simp only [cond1_2, k1_cond3, e0]
    word_cmp
   : ∀ t : Fin grid1.N, cond1_2 (grid1.coords t) ↔ t.val % 37 = 36)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- At the points of case A the printed configuration (`Cfg.idle`) calls output 6 idle: the case stores nothing into it. -/
theorem idleAt1_6_A : ∀ t : Fin cfg1.N, cond1_0 (grid1.coords t) → ¬cond1_1 (grid1.coords t) → ¬cond1_2 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → ¬cond1_2 (grid1.coords t) → (cfg1.win 6).flush t = false := by decide +kernel
/-- At the points of case B the printed configuration (`Cfg.idle`) calls output 6 idle: the case stores nothing into it. -/
theorem idleAt1_6_B : ∀ t : Fin cfg1.N, ¬cond1_0 (grid1.coords t) → cond1_1 (grid1.coords t) → ¬cond1_2 (grid1.coords t) → cfg1.idle 6 (grid1.coords t) = true := by decide +kernel
/-- At the points of case B the pipeline does not write output 6's block back. -/
theorem noFlush1_6_B : ∀ t : Fin cfg1.N, ¬cond1_0 (grid1.coords t) → cond1_1 (grid1.coords t) → ¬cond1_2 (grid1.coords t) → (cfg1.win 6).flush t = false := by decide +kernel
/-- At the points of case C the printed configuration (`Cfg.idle`) calls output 6 live: the case stores into it. -/
theorem liveAt1_6_C : ∀ t : Fin cfg1.N, ¬cond1_0 (grid1.coords t) → cond1_1 (grid1.coords t) → cond1_2 (grid1.coords t) → cfg1.idle 6 (grid1.coords t) = false := by decide +kernel
/-- At the points of case A the printed configuration (`Cfg.idle`) calls output 7 idle: the case stores nothing into it. -/
theorem idleAt1_7_A : ∀ t : Fin cfg1.N, cond1_0 (grid1.coords t) → ¬cond1_1 (grid1.coords t) → ¬cond1_2 (grid1.coords t) → cfg1.idle 7 (grid1.coords t) = true := by decide +kernel
/-- At the points of case A the pipeline does not write output 7's block back. -/
theorem noFlush1_7_A : ∀ t : Fin cfg1.N, cond1_0 (grid1.coords t) → ¬cond1_1 (grid1.coords t) → ¬cond1_2 (grid1.coords t) → (cfg1.win 7).flush t = false := by decide +kernel
/-- At the points of case B the printed configuration (`Cfg.idle`) calls output 7 idle: the case stores nothing into it. -/
theorem idleAt1_7_B : ∀ t : Fin cfg1.N, ¬cond1_0 (grid1.coords t) → cond1_1 (grid1.coords t) → ¬cond1_2 (grid1.coords t) → cfg1.idle 7 (grid1.coords t) = true := by decide +kernel
/-- At the points of case B the pipeline does not write output 7's block back. -/
theorem noFlush1_7_B : ∀ t : Fin cfg1.N, ¬cond1_0 (grid1.coords t) → cond1_1 (grid1.coords t) → ¬cond1_2 (grid1.coords t) → (cfg1.win 7).flush t = false := by decide +kernel
/-- At the points of case C the printed configuration (`Cfg.idle`) calls output 7 live: the case stores into it. -/
theorem liveAt1_7_C : ∀ t : Fin cfg1.N, ¬cond1_0 (grid1.coords t) → cond1_1 (grid1.coords t) → cond1_2 (grid1.coords t) → cfg1.idle 7 (grid1.coords t) = false := by decide +kernel
/-- Where the body stores its tile: the slice of the point. -/
theorem off1_eq : ∀ t : Fin cfg1.N, k1_off1 (grid1.coords t) = ![t.val, 0, 0] :=
  (by decide +kernel : ∀ t : Fin grid1.N, k1_off1 (grid1.coords t) = ![t.val, 0, 0])

/-- Each window's current staging memref at point `t`, spelled as the pipeline passes it (`bodyAt1`), and its wholeness. -/
abbrev ms1_0 (t : Fin cfg1.N) : Memref sig .tc .vmem S1024x3584 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3584x128 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3584x128 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x4736 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S37x1024x128 .f32 := Memref.whole cc1_scratch0
abbrev scM1_1 : Memref sig .tc .vmem S1024x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r)) := by
  unfold Pipeline.ΦA; rw [scopedRest1_eq]; simp only [scM1_0, scM1_1, owns_whole]; try rfl

end Cert.KernelIdeal.Hand

end
-- ==== Proof.KernelIdeal.GateUpVal.lean ====
/- The values the gate and up projection body handles, whatever the float operations: a slice of the tiles
   scratch, the scratch with a slice replaced, and the codes of all tiles as one array. -/
module

public import proofs.«01_k».proof.Proof.KernelIdeal.GateUpBase
public import Idealize.ShloMosaic.Lib.Pointwise
public import Idealize.ShloMosaic.Lib.VecWindow
public import Idealize.ShloMosaic.Lib.WholeRead

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of slice `k` of the tiles' scratch. -/
abbrev sliceRect (k : Fin 37) : Rect S37x1024x128 :=
  Rect.unit (s := S37x1024x128) ![k.val, 0, 0] S1x1024x128.size (by intro a; have := k.isLt; fin_cases a <;> simp [S1x1024x128, S37x1024x128] <;> omega)

/-- Slice `k` of the scratch, as the body loads it. -/
def sliceAt (k : Fin 37) (s : Vec F S37x1024x128 .f32) : Vec F S1x1024x128 .f32 := fun y => s (ix3 k (y 1) (y 2))

/-- The scratch with slice `k` replaced by a tile. -/
def putSlice (k : Fin 37) (s : Vec F S37x1024x128 .f32) (w : Vec F S1x1024x128 .f32) : Vec F S37x1024x128 .f32 :=
  fun y => if (y 0).val = k.val then w (ix3 0 (y 1) (y 2)) else s y

/-- The inverse scale of each row, off the row's running maxima. -/
def invOf (mx : Vec F S1024x128 .f32) : Vec F S1024x1 .f32 := k1_pay6 (F := F) 255#32 (k1_pay4 mx)

/-- The scale of each row, off the row's running maxima. -/
def scaleOf (mx : Vec F S1024x128 .f32) : Vec F S1024x1 .f32 := k1_pay5 (F := F) (k1_pay3 mx)

/-- The codes of all tiles, under one inverse scale per row: column `c` is column `c % 128` of tile `c / 128`. -/
def codesOf (inv : Vec F S1024x1 .f32) (s : Vec F S37x1024x128 .f32) : Vec F S1024x4736 .fp8e4m3 :=
  fun y => k1_pay1 inv (sliceAt ⟨(y 1).val / 128, by have : (y 1).val < 4736 := (y 1).isLt; omega⟩ s)
    (ix2 (y 0) ⟨(y 1).val % 128, Nat.mod_lt _ (by decide)⟩)

theorem sliceAt_eq (k : Fin 37) (s : Vec F S37x1024x128 .f32) (w : Vec F S1x1024x128 .f32)
    (h : ∀ (a : Fin 1024) (b : Fin 128), w (ix3 0 a b) = s (ix3 k a b)) : w = sliceAt k s := by
  funext y
  idx_vars y
  obtain rfl : y0 = 0 := Subsingleton.elim _ _
  exact h _ _

/-- A store of a tile's codes at columns `128 k …` is a block of `codesOf`. -/
theorem codes_piece (k : Fin 37) (inv : Vec F S1024x1 .f32) (s : Vec F S37x1024x128 .f32) (w : Vec F S1x1024x128 .f32)
    (hw : ∀ (a : Fin 1024) (b : Fin 128), w (ix3 0 a b) = s (ix3 k a b))
    (off : Fin 2 → ℕ) (inb : ∀ a, off a + S1024x128.size a ≤ S1024x4736.size a) (h0 : off 0 = 0) (h1 : off 1 = 128 * k.val)
    (x : (Rect.unit (s := S1024x4736) off S1024x128.size inb).shape.Idx) :
    k1_pay1 inv w x = codesOf inv s ((Rect.unit (s := S1024x4736) off S1024x128.size inb).emb x) := by
  obtain rfl := sliceAt_eq k s w hw
  have e0 : (((Rect.unit (s := S1024x4736) off S1024x128.size inb).emb x) 0).val = (x 0).val := by
    show off 0 + 1 * (x 0).val = (x 0).val
    rw [h0]; omega
  have e1 : (((Rect.unit (s := S1024x4736) off S1024x128.size inb).emb x) 1).val = 128 * k.val + (x 1).val := by
    show off 1 + 1 * (x 1).val = _
    rw [h1]; omega
  have hx : (x 1).val < 128 := (x 1).isLt
  unfold codesOf
  congr 1
  · congr 1
    exact Fin.ext (by show k.val = _ / 128; rw [e1]; omega)
  · funext a
    match a with
    | ⟨0, _⟩ => exact Fin.ext e0.symm
    | ⟨1, _⟩ => exact Fin.ext (by show (x 1).val = _ % 128; rw [e1]; omega)

/-- Storing a tile at slice `k` of the scratch. -/
theorem read_putSlice (v : View sig .tc .vmem S37x1024x128 .f32) (f : v.ty.Contents (Elt F)) (k : Fin 37) (off : Fin 3 → ℕ)
    (inb : ∀ a, off a + S1x1024x128.size a ≤ S37x1024x128.size a) (h : off = ![k.val, 0, 0]) (w : Vec F S1x1024x128 .f32) :
    v.read (Elt F) (v.writes (Elt F) f [⟨Rect.unit (s := S37x1024x128) off S1x1024x128.size inb, w⟩]) = putSlice k (v.read (Elt F) f) w := by
  funext y
  unfold putSlice
  split
  next hy =>
    refine View.read_writes_cons_unit_of_mem v f inb w [] y (ix3 0 (y 1) (y 2)) h fun a => ?_
    match a with
    | ⟨0, _⟩ => exact hy
    | ⟨1, _⟩ => exact (Nat.zero_add _).symm
    | ⟨2, _⟩ => exact (Nat.zero_add _).symm
  next hy =>
    refine (View.read_writes_cons_unit_of_not_mem v f inb w [] y h 0 ?_).trans rfl
    show (y 0).val < k.val ∨ k.val + 1 ≤ (y 0).val
    omega

/-- A load of a whole buffer is its contents. -/
theorem readAt_whole {S : Shape} {e : EltTy} (arg : Memref sig .tc .vmem S e) (h : arg.IsWhole) (X : Vec F S e) (off : Fin S.rank → ℕ)
    (inb : ∀ a, off a + S.size a ≤ S.size a) (hz : ∀ a, off a = 0) :
    View.readAt (Elt F) arg.view (Rect.unit (s := S) off S.size inb).toLoadRect (h.unread X) = X := by
  funext x
  rw [h.readAt_unread]
  congr 1
  funext a
  exact Fin.ext (by show off a + 1 * (x a).val = _; rw [hz a]; omega)

/-- A store over a whole buffer leaves what it stores. -/
theorem read_store_whole {S : Shape} {e : EltTy} (v : View sig .tc .vmem S e) (f : v.ty.Contents (Elt F)) (off : Fin S.rank → ℕ)
    (inb : ∀ a, off a + S.size a ≤ S.size a) (hz : ∀ a, off a = 0) (X : Vec F S e) :
    v.read (Elt F) (v.writes (Elt F) f [⟨Rect.unit (s := S) off S.size inb, X⟩]) = X := by
  funext y
  exact View.read_writes_cons_unit_of_mem v f inb X [] y y rfl fun a => by rw [hz a, Nat.zero_add]

/-- A load of a whole buffer after a store over the whole of it. -/
theorem load_store_whole {S : Shape} {e : EltTy} (v : View sig .tc .vmem S e) (off off' : Fin S.rank → ℕ)
    (inb : ∀ a, off a + S.size a ≤ S.size a) (inb' : ∀ a, off' a + S.size a ≤ S.size a) (h : off = off') (X : Vec F S e) :
    v.readCov [⟨Rect.unit (s := S) off S.size inb, X⟩] (Rect.unit (s := S) off' S.size inb').toLoadRect = X := by
  subst h
  exact View.readCov_cons_toLoadRect v (Rect.unit (s := S) off S.size inb) X []

/-- The codes of a tile loaded before the last one was stored. -/
theorem codes_old (arg : Memref sig .tc .vmem S37x1024x128 .f32) (h : arg.IsWhole) (s : Vec F S37x1024x128 .f32) (t : Vec F S1x1024x128 .f32)
    {inv inv' : Vec F S1024x1 .f32} (hinv : inv' = inv)
    (off : Fin 2 → ℕ) (inb : ∀ a, off a + S1024x128.size a ≤ S1024x4736.size a)
    (off3 : Fin 3 → ℕ) (inb3 : ∀ a, off3 a + S1x1024x128.size a ≤ S37x1024x128.size a)
    (h0 : off 0 = 0) (h1 : off 1 = 128 * off3 0) (hk : off3 0 < 36) (h31 : off3 1 = 0) (h32 : off3 2 = 0)
    (x : (Rect.unit (s := S1024x4736) off S1024x128.size inb).shape.Idx) :
    k1_pay1 inv' (View.readAt (Elt F) arg.view (Rect.unit (s := S37x1024x128) off3 S1x1024x128.size inb3).toLoadRect (h.unread s)) x
      = codesOf inv (putSlice 36 s t) ((Rect.unit (s := S1024x4736) off S1024x128.size inb).emb x) := by
  subst hinv
  refine codes_piece ⟨off3 0, by omega⟩ _ _ _ (fun a b => ?_) off inb h0 h1 x
  rw [h.readAt_unread]
  have hne : ¬ off3 0 = 36 := by omega
  show s _ = if off3 0 = 36 then _ else s _
  rw [if_neg hne]
  congr 1
  funext d
  match d with
  | ⟨0, _⟩ => exact Fin.ext (by show off3 0 + 1 * 0 = off3 0; omega)
  | ⟨1, _⟩ => exact Fin.ext (by show off3 1 + 1 * a.val = a.val; omega)
  | ⟨2, _⟩ => exact Fin.ext (by show off3 2 + 1 * b.val = b.val; omega)

/-- The codes of the tile stored last. -/
theorem codes_new (v : View sig .tc .vmem S37x1024x128 .f32) (s : Vec F S37x1024x128 .f32) (t t' : Vec F S1x1024x128 .f32) (ht : t' = t)
    {inv inv' : Vec F S1024x1 .f32} (hinv : inv' = inv)
    (off : Fin 2 → ℕ) (inb : ∀ a, off a + S1024x128.size a ≤ S1024x4736.size a)
    (off3 off3' : Fin 3 → ℕ) (inb3 : ∀ a, off3 a + S1x1024x128.size a ≤ S37x1024x128.size a) (inb3' : ∀ a, off3' a + S1x1024x128.size a ≤ S37x1024x128.size a)
    (h3 : off3 = off3') (h0 : off 0 = 0) (h1 : off 1 = 4608)
    (x : (Rect.unit (s := S1024x4736) off S1024x128.size inb).shape.Idx) :
    k1_pay1 inv' (v.readCov [⟨Rect.unit (s := S37x1024x128) off3 S1x1024x128.size inb3, t'⟩] (Rect.unit (s := S37x1024x128) off3' S1x1024x128.size inb3').toLoadRect) x
      = codesOf inv (putSlice 36 s t) ((Rect.unit (s := S1024x4736) off S1024x128.size inb).emb x) := by
  subst hinv; subst h3; subst ht
  rw [View.readCov_cons_toLoadRect v (Rect.unit (s := S37x1024x128) off3 S1x1024x128.size inb3) t' []]
  exact codes_piece 36 _ _ _ (fun a b => (if_pos rfl).symm) off inb h0 h1 x

theorem zero2 : ∀ a : Fin 2, (![0, 0] : Fin 2 → ℕ) a = 0 := by decide
theorem zero3 : ∀ a : Fin 3, (![0, 0, 0] : Fin 3 → ℕ) a = 0 := by decide

end Cert.KernelIdeal.Hand

end
-- ==== Proof.KernelIdeal.GateUpRun.lean ====
/- The gate and up projection body at the points before the last. -/
module

public import proofs.«01_k».proof.Proof.KernelIdeal.GateUpVal

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at the first point: its tile into its slice, the running maximum set. -/
theorem run_first (c : Dev nD) (E : Set ℕ) (i : grid1.Coords) (arg1 : Memref sig .tc .vmem S1024x3584 .fp8e4m3) (harg1 : arg1.IsWhole) (arg2 : Memref sig .tc .vmem S1024x1 .f32) (harg2 : arg2.IsWhole) (arg3 : Memref sig .tc .vmem S3584x128 .fp8e4m3) (harg3 : arg3.IsWhole) (arg4 : Memref sig .tc .vmem S3584x128 .fp8e4m3) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1024x4736 .fp8e4m3) (harg7 : arg7.IsWhole) (arg8 : Memref sig .tc .vmem S1024x1 .f32) (harg8 : arg8.IsWhole) (arg9 : Memref sig .tc .vmem S37x1024x128 .f32) (harg9 : arg9.IsWhole) (arg10 : Memref sig .tc .vmem S1024x128 .f32) (harg10 : arg10.IsWhole)
    (hc0 : cond1_0 i) (hc1 : ¬cond1_1 i) (hc2 : ¬cond1_2 i) (k : Fin 37) (hoff : k1_off1 i = ![k.val, 0, 0])
    (x0 : Vec F S1024x3584 .fp8e4m3) (x1 : Vec F S1024x1 .f32) (x2 : Vec F S3584x128 .fp8e4m3) (x3 : Vec F S3584x128 .fp8e4m3) (x4 : Vec F S1x1x128 .f32) (x5 : Vec F S1x1x128 .f32) (xs0 : Vec F S37x1024x128 .f32) (xs1 : Vec F S1024x128 .f32) (x6 : Vec F S1024x4736 .fp8e4m3) (x7 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (putSlice k xs0 (k1_pay51 x2 x3 x0 x1 x4 x5)) ∗ owns (c : Thread nD τ) arg10 fullShare (k1_pay52 x2 x3 x0 x1 x4 x5)) -∗ K ⟨⟩))
      ⊢ wp frame (wpE (defs₀ (F := F)) Variants.none c none) E (cc1_gate_up i arg1 harg1 arg2 harg2 arg3 harg3 arg4 harg4 arg5 harg5 arg6 harg6 arg7 harg7 arg8 harg8 arg9 harg9 arg10 harg10) K := by
  simp only [cc1_gate_up_eq_skeleton]; unfold cc1_gate_up_skel
  simp only [k1_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    rw [read_putSlice _ _ k _ _ hoff, harg9.read_unread, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]
  iexists _; isplitr
  swap; · iexact HS1
  ipureintro
  rw [read_store_whole _ _ _ _ zero2, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]

/-- The body at a point between: its tile into its slice, the running maximum extended. -/
theorem run_mid (c : Dev nD) (E : Set ℕ) (i : grid1.Coords) (arg1 : Memref sig .tc .vmem S1024x3584 .fp8e4m3) (harg1 : arg1.IsWhole) (arg2 : Memref sig .tc .vmem S1024x1 .f32) (harg2 : arg2.IsWhole) (arg3 : Memref sig .tc .vmem S3584x128 .fp8e4m3) (harg3 : arg3.IsWhole) (arg4 : Memref sig .tc .vmem S3584x128 .fp8e4m3) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1024x4736 .fp8e4m3) (harg7 : arg7.IsWhole) (arg8 : Memref sig .tc .vmem S1024x1 .f32) (harg8 : arg8.IsWhole) (arg9 : Memref sig .tc .vmem S37x1024x128 .f32) (harg9 : arg9.IsWhole) (arg10 : Memref sig .tc .vmem S1024x128 .f32) (harg10 : arg10.IsWhole)
    (hc0 : ¬cond1_0 i) (hc1 : cond1_1 i) (hc2 : ¬cond1_2 i) (k : Fin 37) (hoff : k1_off1 i = ![k.val, 0, 0])
    (x0 : Vec F S1024x3584 .fp8e4m3) (x1 : Vec F S1024x1 .f32) (x2 : Vec F S3584x128 .fp8e4m3) (x3 : Vec F S3584x128 .fp8e4m3) (x4 : Vec F S1x1x128 .f32) (x5 : Vec F S1x1x128 .f32) (xs0 : Vec F S37x1024x128 .f32) (xs1 : Vec F S1024x128 .f32) (x6 : Vec F S1024x4736 .fp8e4m3) (x7 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (putSlice k xs0 (k1_pay51 x2 x3 x0 x1 x4 x5)) ∗ owns (c : Thread nD τ) arg10 fullShare (k1_pay53 x2 x3 x0 x1 x4 x5 xs1)) -∗ K ⟨⟩))
      ⊢ wp frame (wpE (defs₀ (F := F)) Variants.none c none) E (cc1_gate_up i arg1 harg1 arg2 harg2 arg3 harg3 arg4 harg4 arg5 harg5 arg6 harg6 arg7 harg7 arg8 harg8 arg9 harg9 arg10 harg10) K := by
  simp only [cc1_gate_up_eq_skeleton]; unfold cc1_gate_up_skel
  simp only [k1_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    rw [read_putSlice _ _ k _ _ hoff, harg9.read_unread, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]
  iexists _; isplitr
  swap; · iexact HS1
  ipureintro
  rw [read_store_whole _ _ _ _ zero2, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3, readAt_whole arg10 harg10 xs1 _ _ zero2]

end Cert.KernelIdeal.Hand

end
-- ==== Proof.KernelIdeal.GateUpLast.lean ====
/- The gate and up projection body at the last point. -/
module

public import proofs.«01_k».proof.Proof.KernelIdeal.GateUpVal
public import Idealize.ShloMosaic.Lib.Pipeline.ReadBack

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at the last point: its tile into the last slice, the running maximum extended; then the scales from the
maximum and the codes of all tiles. -/
theorem run_last (c : Dev nD) (E : Set ℕ) (i : grid1.Coords) (arg1 : Memref sig .tc .vmem S1024x3584 .fp8e4m3) (harg1 : arg1.IsWhole) (arg2 : Memref sig .tc .vmem S1024x1 .f32) (harg2 : arg2.IsWhole) (arg3 : Memref sig .tc .vmem S3584x128 .fp8e4m3) (harg3 : arg3.IsWhole) (arg4 : Memref sig .tc .vmem S3584x128 .fp8e4m3) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1024x4736 .fp8e4m3) (harg7 : arg7.IsWhole) (arg8 : Memref sig .tc .vmem S1024x1 .f32) (harg8 : arg8.IsWhole) (arg9 : Memref sig .tc .vmem S37x1024x128 .f32) (harg9 : arg9.IsWhole) (arg10 : Memref sig .tc .vmem S1024x128 .f32) (harg10 : arg10.IsWhole)
    (hc0 : ¬cond1_0 i) (hc1 : cond1_1 i) (hc2 : cond1_2 i) (hoff : k1_off1 i = ![36, 0, 0])
    (x0 : Vec F S1024x3584 .fp8e4m3) (x1 : Vec F S1024x1 .f32) (x2 : Vec F S3584x128 .fp8e4m3) (x3 : Vec F S3584x128 .fp8e4m3) (x4 : Vec F S1x1x128 .f32) (x5 : Vec F S1x1x128 .f32) (xs0 : Vec F S37x1024x128 .f32) (xs1 : Vec F S1024x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (codesOf (invOf (k1_pay53 x2 x3 x0 x1 x4 x5 xs1)) (putSlice 36 xs0 (k1_pay51 x2 x3 x0 x1 x4 x5)))
            ∗ owns (c : Thread nD τ) arg8 fullShare (scaleOf (k1_pay53 x2 x3 x0 x1 x4 x5 xs1))
            ∗ owns (c : Thread nD τ) arg9 fullShare (putSlice 36 xs0 (k1_pay51 x2 x3 x0 x1 x4 x5)) ∗ owns (c : Thread nD τ) arg10 fullShare (k1_pay53 x2 x3 x0 x1 x4 x5 xs1)) -∗ K ⟨⟩))
      ⊢ wp frame (wpE (defs₀ (F := F)) Variants.none c none) E (cc1_gate_up i arg1 harg1 arg2 harg2 arg3 harg3 arg4 harg4 arg5 harg5 arg6 harg6 arg7 harg7 arg8 harg8 arg9 harg9 arg10 harg10) K := by
  letI : ClosedOff (k1_off1 i) := ⟨![36, 0, 0], hoff⟩
  simp only [cc1_gate_up_eq_skeleton]; unfold cc1_gate_up_skel
  simp only [k1_part13_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
  sl_exec (disch := first | sl_exact hc0 | sl_exact hc1 | sl_exact hc2)
  sl_step
  iapply Hk
  have hmx : run_last.sl.v38 c arg1 harg1 arg2 harg2 arg3 harg3 arg4 harg4 arg5 harg5 arg6 harg6 arg10 harg10 x0 x1 x2 x3 x4 x5 xs1 = k1_pay53 x2 x3 x0 x1 x4 x5 xs1 := by
    unfold run_last.sl.v38 run_last.sl.HS1_1
    rw [load_store_whole _ _ _ _ _ rfl, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3, readAt_whole arg10 harg10 xs1 _ _ zero2]
  have hinv : run_last.sl.r_2 c arg1 harg1 arg2 harg2 arg3 harg3 arg4 harg4 arg5 harg5 arg6 harg6 arg10 harg10 x0 x1 x2 x3 x4 x5 xs1 = invOf (k1_pay53 x2 x3 x0 x1 x4 x5 xs1) := by
    unfold run_last.sl.r_2 run_last.sl.r_1
    rw [hmx]; rfl
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    have ht : k1_pay51 (View.readAt (Elt F) arg3.view (Rect.unit ![0, 0] S3584x128.size inb_S3584x128_S3584x128_0_0).toLoadRect (harg3.unread x2))
        (View.readAt (Elt F) arg4.view (Rect.unit ![0, 0] S3584x128.size inb_S3584x128_S3584x128_0_0).toLoadRect (harg4.unread x3))
        (View.readAt (Elt F) arg1.view (Rect.unit ![0, 0] S1024x3584.size inb_S1024x3584_S1024x3584_0_0).toLoadRect (harg1.unread x0))
        (View.readAt (Elt F) arg2.view (Rect.unit ![0, 0] S1024x1.size inb_S1024x1_S1024x1_0_0).toLoadRect (harg2.unread x1))
        (View.readAt (Elt F) arg5.view (Rect.unit ![0, 0, 0] S1x1x128.size inb_S1x1x128_S1x1x128_0_0_0).toLoadRect (harg5.unread x4))
        (View.readAt (Elt F) arg6.view (Rect.unit ![0, 0, 0] S1x1x128.size inb_S1x1x128_S1x1x128_0_0_0).toLoadRect (harg6.unread x5))
        = k1_pay51 x2 x3 x0 x1 x4 x5 := by
      rw [readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]
    funext y
    refine View.read_writes_apply_of_pieces _ _ (codesOf (invOf (k1_pay53 x2 x3 x0 x1 x4 x5 xs1)) (putSlice 36 xs0 (k1_pay51 x2 x3 x0 x1 x4 x5))) _
      (View.PiecesOf.mem ?_) y ?_
    swap; · exact View.cover_of_tiledL (s := S1024x4736) _ S1024x128.size (by sl_kernel_rfl) y
    refine ⟨fun x => codes_new arg9.view xs0 _ _ ht hinv _ (by decide) _ _ (hoff ▸ by decide) (by decide) hoff rfl rfl x, ?_⟩
    repeat' first
      | exact trivial
      | refine ⟨fun x => codes_old arg9 harg9 xs0 _ hinv _ (by decide) _ (by decide) rfl rfl (by decide) rfl rfl x, ?_⟩
  isplitl [H7]
  · iexists _; isplitr
    swap; · iexact H7
    ipureintro
    unfold run_last.sl.r
    rw [read_store_whole _ _ _ _ zero2, hmx]; rfl
  isplitl [HS0]
  · iexists _; isplitr
    swap; · iexact HS0
    ipureintro
    unfold run_last.sl.HS0_1
    rw [read_putSlice _ _ 36 _ _ hoff, harg9.read_unread, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3]
  iexists _; isplitr
  swap; · iexact HS1
  ipureintro
  unfold run_last.sl.HS1_1
  rw [read_store_whole _ _ _ _ zero2, readAt_whole arg3 harg3 x2 _ _ zero2, readAt_whole arg4 harg4 x3 _ _ zero2, readAt_whole arg1 harg1 x0 _ _ zero2, readAt_whole arg2 harg2 x1 _ _ zero2, readAt_whole arg5 harg5 x4 _ _ zero3, readAt_whole arg6 harg6 x5 _ _ zero3, readAt_whole arg10 harg10 xs1 _ _ zero2]

end Cert.KernelIdeal.Hand
-- ==== Proof.KernelIdeal.GateUp.lean ====
/- The gate and up projection region: what its scratch buffers hold between points, its proof data, and its body
   obligation. -/
module

public import proofs.«01_k».proof.Proof.KernelIdeal.GateUpRun
public import proofs.«01_k».proof.Proof.KernelIdeal.GateUpLast

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the scratch buffers hold -/

/-- Point `n` of the grid. -/
def pt (n : ℕ) : Fin cfg1.N := ⟨n % 37, lt_of_lt_of_eq (Nat.mod_lt _ (by decide)) (show 37 = cfg1.N from N_1.symm)⟩

theorem pt_val (t : Fin cfg1.N) : pt t.val = t :=
  Fin.ext (Nat.mod_eq_of_lt (lt_of_lt_of_eq t.isLt (show cfg1.N = 37 from N_1)))

/-- The tile of hidden values the body computes at point `t`. -/
def tileAt (c : Dev nD) (t : Fin cfg1.N) : Vec F S1x1024x128 .f32 := k1_pay51 (iblk1 V c 2 t) (iblk1 V c 3 t) (iblk1 V c 0 t) (iblk1 V c 1 t) (iblk1 V c 4 t) (iblk1 V c 5 t)

/-- All the tiles, one slice a point. -/
def tilesAll (c : Dev nD) : Vec F S37x1024x128 .f32 := fun y => tileAt V c (pt (y 0).val) (ix3 0 (y 1) (y 2))

/-- The running maximum after point `n`. -/
def maxAt (c : Dev nD) : ℕ → Vec F S1024x128 .f32
  | 0 => k1_pay52 (iblk1 V c 2 (pt 0)) (iblk1 V c 3 (pt 0)) (iblk1 V c 0 (pt 0)) (iblk1 V c 1 (pt 0)) (iblk1 V c 4 (pt 0)) (iblk1 V c 5 (pt 0))
  | n + 1 => k1_pay53 (iblk1 V c 2 (pt (n + 1))) (iblk1 V c 3 (pt (n + 1))) (iblk1 V c 0 (pt (n + 1))) (iblk1 V c 1 (pt (n + 1))) (iblk1 V c 4 (pt (n + 1))) (iblk1 V c 5 (pt (n + 1))) (maxAt c n)

/-- The tile scratch after `n` points: the slices written so far hold their tiles. -/
def Tiles (c : Dev nD) (n : ℕ) (f : Vec F S37x1024x128 .f32) : Prop := ∀ y, (y 0).val < n → f y = tilesAll V c y

/-- The maximum scratch after `n` points: the running maximum, once a point has run. -/
def Maxes (c : Dev nD) (n : ℕ) (g : Vec F S1024x128 .f32) : Prop := 0 < n → g = maxAt V c (n - 1)

theorem Tiles.step {c : Dev nD} {f : Vec F S37x1024x128 .f32} (t : Fin cfg1.N) (hN : t.val < 37) (h : Tiles V c t.val f) :
    Tiles V c (t.val + 1) (putSlice ⟨t.val, hN⟩ f (tileAt V c t)) := by
  intro y hy
  unfold putSlice
  split
  next e =>
    unfold tilesAll
    rw [e]
    show tileAt V c t _ = tileAt V c (pt t.val) _
    rw [pt_val]
  next e => exact h y (by have : ¬ (y 0).val = t.val := e; omega)

/-- After the last point every slice holds its tile. -/
theorem Tiles.all {c : Dev nD} {f : Vec F S37x1024x128 .f32} (h : Tiles V c 37 f) : f = tilesAll V c :=
  funext fun y => h y (y 0).isLt

theorem Maxes.first (c : Dev nD) (t : Fin cfg1.N) (h0 : t.val = 0) : Maxes V c (t.val + 1) (k1_pay52 (iblk1 V c 2 t) (iblk1 V c 3 t) (iblk1 V c 0 t) (iblk1 V c 1 t) (iblk1 V c 4 t) (iblk1 V c 5 t)) := by
  intro _
  have e : t = pt 0 := by rw [← h0, pt_val]
  rw [h0, e]; rfl

theorem Maxes.step {c : Dev nD} {g : Vec F S1024x128 .f32} (t : Fin cfg1.N) (h1 : 1 ≤ t.val) (h : Maxes V c t.val g) :
    Maxes V c (t.val + 1) (k1_pay53 (iblk1 V c 2 t) (iblk1 V c 3 t) (iblk1 V c 0 t) (iblk1 V c 1 t) (iblk1 V c 4 t) (iblk1 V c 5 t) g) := by
  intro _
  rw [h h1]
  obtain ⟨n, hn⟩ := Nat.exists_eq_add_of_le' h1
  have e : pt (n + 1) = t := by rw [← hn, pt_val]
  rw [hn]
  show _ = maxAt V c (n + 1)
  rw [maxAt, e]; rfl

/-! ## The pipeline's proof data -/

/-- What the region holds between points beside its windows: the other buffers at some contents, the two scratch
    buffers at what the points so far left, the generator register. -/
def PhiS (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f, ⌜Tiles V c n f⌝ ∗ owns (c : Thread nD τ) scM1_0 fullShare f) ∗ (∃ g, ⌜Maxes V c n g⌝ ∗ owns (c : Thread nD τ) scM1_1 fullShare g) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r))

/-- The codes of the hidden values and their scales, as the last point leaves them. -/
def codesLast (c : Dev nD) : Vec F S1024x4736 .fp8e4m3 := codesOf (invOf (maxAt V c 36)) (tilesAll V c)
def scaleLast (c : Dev nD) : Vec F S1024x1 .f32 := scaleOf (maxAt V c 36)

/-- The proof data of the region on core `c`: the arrays as the region finds them; each input's buffer at its block; the
    outputs' at what the last point leaves (they are idle before it); the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => codesLast V c
    | ⟨7, _⟩ => scaleLast V c
  Φ t := PhiS V c t.val
  q w := Pipeline.shareOf spec1 w
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = codesLast V c := by dsimp only [dat1]
theorem after1_7 (c : Dev nD) (t : Fin cfg1.N) : (dat1 V c).after 7 t = scaleLast V c := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What each input's buffer is left at. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]

theorem Phi1_castSucc (c : Dev nD) (t : Fin cfg1.N) : (dat1 V c).Φ t.castSucc = PhiS V c t.val := by dsimp only [dat1]; rfl
theorem Phi1_succ (c : Dev nD) (t : Fin cfg1.N) : (dat1 V c).Φ t.succ = PhiS V c (t.val + 1) := by dsimp only [dat1]; rfl

/-- The launch's invariant is the region's before the first point; -/
theorem hin1 (c : Dev nD) : Pipeline.ΦA spec1 c ⊢ (dat1 V c).Φ 0 := by
  rw [show (dat1 V c).Φ 0 = PhiS V c 0 from by dsimp only [dat1]; rfl, PhiA1_eq]
  unfold PhiS
  iintro ⟨⟨HR0, HR1, HR2, HR3, HR4, HR5, ⟨%f, HS0⟩, ⟨%g, HS1⟩, HR8, HR9, HR10, HR11, HR12, HR13, HR14, HR15⟩, Hg⟩
  isplitl [HR0 HR1 HR2 HR3 HR4 HR5 HS0 HS1 HR8 HR9 HR10 HR11 HR12 HR13 HR14 HR15]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists f; isplitr; (· ipureintro; exact fun _ h => absurd h (Nat.not_lt_zero _)); iexact HS0
    isplitl [HS1]; · iexists g; isplitr; (· ipureintro; exact fun h => absurd h (Nat.lt_irrefl _)); iexact HS1
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexact HR15
  iexact Hg

/-- and what the last point leaves is the launch's again. -/
theorem hout1 (c : Dev nD) : (dat1 V c).Φ (Fin.last cfg1.N) ⊢ Pipeline.ΦA spec1 c := by
  rw [show (dat1 V c).Φ (Fin.last cfg1.N) = PhiS V c cfg1.N from by dsimp only [dat1]; rfl, PhiA1_eq]
  unfold PhiS
  iintro ⟨⟨HR0, HR1, HR2, HR3, HR4, HR5, ⟨%f, %hf, HS0⟩, ⟨%g, %hg, HS1⟩, HR8, HR9, HR10, HR11, HR12, HR13, HR14, HR15⟩, Hg⟩
  isplitl [HR0 HR1 HR2 HR3 HR4 HR5 HS0 HS1 HR8 HR9 HR10 HR11 HR12 HR13 HR14 HR15]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexact HR15
  iexact Hg

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- The body at the first point. -/
theorem sound_first (c : Dev nD) (t : Fin cfg1.N) (h0 : t.val = 0) :
    bodyPre1 V c t ⊢ wp frame (wpE (defs₀ (F := F)) Variants.none c none) Set.univ (bodyAt1 t) (fun _ => bodyPost1 V c t) := by
  have hN : t.val < 37 := lt_of_lt_of_eq t.isLt (show cfg1.N = 37 from N_1)
  unfold bodyPre1 bodyPost1 bodyAt1
  simp only [before1_0, before1_1, before1_2, before1_3, before1_4, before1_5]
  rw [leaves1_0, leaves1_1, leaves1_2, leaves1_3, leaves1_4, leaves1_5, Dat.leavesExact_idle (dat1 V c) 6 t (idleAt1_6_A t ((hcond1_0 t).mpr (by omega)) (fun h => by have := (hcond1_1 t).mp h; omega) (fun h => by have := (hcond1_2 t).mp h; omega)) (noFlush1_6_A t ((hcond1_0 t).mpr (by omega)) (fun h => by have := (hcond1_1 t).mp h; omega) (fun h => by have := (hcond1_2 t).mp h; omega)), Dat.leavesExact_idle (dat1 V c) 7 t (idleAt1_7_A t ((hcond1_0 t).mpr (by omega)) (fun h => by have := (hcond1_1 t).mp h; omega) (fun h => by have := (hcond1_2 t).mp h; omega)) (noFlush1_7_A t ((hcond1_0 t).mpr (by omega)) (fun h => by have := (hcond1_1 t).mp h; omega) (fun h => by have := (hcond1_2 t).mp h; omega))]
  rw [show (dat1 V c).owesAt () t.succ = (dat1 V c).owesAt () t.castSucc from rfl, Phi1_castSucc, Phi1_succ]
  unfold PhiS
  iintro ⟨⟨⟨HR0, HR1, HR2, HR3, HR4, HR5, ⟨%f, %hf, HS0⟩, ⟨%g, %hg, HS1⟩, HR8, HR9, HR10, HR11, HR12, HR13, HR14, HR15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr (by omega)) (fun h => by have := (hcond1_1 t).mp h; omega) (fun h => by have := (hcond1_2 t).mp h; omega) ⟨t.val, hN⟩ (off1_eq t) (iblk1 V c 0 t) (iblk1 V c 1 t) (iblk1 V c 2 t) (iblk1 V c 3 t) (iblk1 V c 4 t) (iblk1 V c 5 t) f g _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 HR8 HR9 HR10 HR11 HR12 HR13 HR14 HR15 Hg]
  · isplitl [HR0 HR1 HR2 HR3 HR4 HR5 HS0 HS1 HR8 HR9 HR10 HR11 HR12 HR13 HR14 HR15]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexists _; isplitr; (· ipureintro; exact hf.step V t hN); iexact HS0
      isplitl [HS1]; · iexists _; isplitr; (· ipureintro; exact Maxes.first V c t h0); iexact HS1
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      iexact HR15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

/-- The body at a point between the first and the last. -/
theorem sound_mid (c : Dev nD) (t : Fin cfg1.N) (h1 : 1 ≤ t.val) (h2 : t.val < 36) :
    bodyPre1 V c t ⊢ wp frame (wpE (defs₀ (F := F)) Variants.none c none) Set.univ (bodyAt1 t) (fun _ => bodyPost1 V c t) := by
  have hN : t.val < 37 := lt_of_lt_of_eq t.isLt (show cfg1.N = 37 from N_1)
  unfold bodyPre1 bodyPost1 bodyAt1
  simp only [before1_0, before1_1, before1_2, before1_3, before1_4, before1_5]
  rw [leaves1_0, leaves1_1, leaves1_2, leaves1_3, leaves1_4, leaves1_5, Dat.leavesExact_idle (dat1 V c) 6 t (idleAt1_6_B t (fun h => by have := (hcond1_0 t).mp h; omega) ((hcond1_1 t).mpr (by omega)) (fun h => by have := (hcond1_2 t).mp h; omega)) (noFlush1_6_B t (fun h => by have := (hcond1_0 t).mp h; omega) ((hcond1_1 t).mpr (by omega)) (fun h => by have := (hcond1_2 t).mp h; omega)), Dat.leavesExact_idle (dat1 V c) 7 t (idleAt1_7_B t (fun h => by have := (hcond1_0 t).mp h; omega) ((hcond1_1 t).mpr (by omega)) (fun h => by have := (hcond1_2 t).mp h; omega)) (noFlush1_7_B t (fun h => by have := (hcond1_0 t).mp h; omega) ((hcond1_1 t).mpr (by omega)) (fun h => by have := (hcond1_2 t).mp h; omega))]
  rw [show (dat1 V c).owesAt () t.succ = (dat1 V c).owesAt () t.castSucc from rfl, Phi1_castSucc, Phi1_succ]
  unfold PhiS
  iintro ⟨⟨⟨HR0, HR1, HR2, HR3, HR4, HR5, ⟨%f, %hf, HS0⟩, ⟨%g, %hg, HS1⟩, HR8, HR9, HR10, HR11, HR12, HR13, HR14, HR15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_mid c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => by have := (hcond1_0 t).mp h; omega) ((hcond1_1 t).mpr (by omega)) (fun h => by have := (hcond1_2 t).mp h; omega) ⟨t.val, hN⟩ (off1_eq t) (iblk1 V c 0 t) (iblk1 V c 1 t) (iblk1 V c 2 t) (iblk1 V c 3 t) (iblk1 V c 4 t) (iblk1 V c 5 t) f g _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 HR8 HR9 HR10 HR11 HR12 HR13 HR14 HR15 Hg]
  · isplitl [HR0 HR1 HR2 HR3 HR4 HR5 HS0 HS1 HR8 HR9 HR10 HR11 HR12 HR13 HR14 HR15]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexists _; isplitr; (· ipureintro; exact hf.step V t hN); iexact HS0
      isplitl [HS1]; · iexists _; isplitr; (· ipureintro; exact hg.step V t h1); iexact HS1
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      iexact HR15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

/-- The body at the last point. -/
theorem sound_last (c : Dev nD) (t : Fin cfg1.N) (h36 : t.val = 36) :
    bodyPre1 V c t ⊢ wp frame (wpE (defs₀ (F := F)) Variants.none c none) Set.univ (bodyAt1 t) (fun _ => bodyPost1 V c t) := by
  have hN : t.val < 37 := lt_of_lt_of_eq t.isLt (show cfg1.N = 37 from N_1)
  have e6 : (dat1 V c).leavesExact 6 t = owns (c : Thread nD τ) (ms1_6 t) fullShare (codesLast V c) := by
    unfold Dat.leavesExact; rw [liveAt1_6_C t (fun h => by have := (hcond1_0 t).mp h; omega) ((hcond1_1 t).mpr (by omega)) ((hcond1_2 t).mpr (by omega)), after1_6]
  have e7 : (dat1 V c).leavesExact 7 t = owns (c : Thread nD τ) (ms1_7 t) fullShare (scaleLast V c) := by
    unfold Dat.leavesExact; rw [liveAt1_7_C t (fun h => by have := (hcond1_0 t).mp h; omega) ((hcond1_1 t).mpr (by omega)) ((hcond1_2 t).mpr (by omega)), after1_7]
  unfold bodyPre1 bodyPost1 bodyAt1
  simp only [before1_0, before1_1, before1_2, before1_3, before1_4, before1_5]
  rw [leaves1_0, leaves1_1, leaves1_2, leaves1_3, leaves1_4, leaves1_5, e6, e7]
  rw [show (dat1 V c).owesAt () t.succ = (dat1 V c).owesAt () t.castSucc from rfl, Phi1_castSucc, Phi1_succ]
  unfold PhiS
  iintro ⟨⟨⟨HR0, HR1, HR2, HR3, HR4, HR5, ⟨%f, %hf, HS0⟩, ⟨%g, %hg, HS1⟩, HR8, HR9, HR10, HR11, HR12, HR13, HR14, HR15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hM := hg.step V t (by omega)
  have hT : Tiles V c (t.val + 1) (putSlice 36 f (tileAt V c t)) := by
    have := hf.step V t hN
    rwa [show (⟨t.val, hN⟩ : Fin 37) = 36 from Fin.ext h36] at this
  have eM : k1_pay53 (iblk1 V c 2 t) (iblk1 V c 3 t) (iblk1 V c 0 t) (iblk1 V c 1 t) (iblk1 V c 4 t) (iblk1 V c 5 t) g = maxAt V c 36 := by
    have := hM (by omega)
    rwa [h36] at this
  have eT : putSlice 36 f (tileAt V c t) = tilesAll V c := Tiles.all V (by rwa [h36] at hT)
  unfold codesLast scaleLast
  rw [← eM, ← eT]
  iapply (run_last c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => by have := (hcond1_0 t).mp h; omega) ((hcond1_1 t).mpr (by omega)) ((hcond1_2 t).mpr (by omega)) ((off1_eq t).trans (by rw [h36])) (iblk1 V c 0 t) (iblk1 V c 1 t) (iblk1 V c 2 t) (iblk1 V c 3 t) (iblk1 V c 4 t) (iblk1 V c 5 t) f g _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 HR8 HR9 HR10 HR11 HR12 HR13 HR14 HR15 Hg]
  · isplitl [HR0 HR1 HR2 HR3 HR4 HR5 HS0 HS1 HR8 HR9 HR10 HR11 HR12 HR13 HR14 HR15]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexists _; isplitr; (· ipureintro; exact hT); iexact HS0
      isplitl [HS1]; · iexists _; isplitr; (· ipureintro; exact hM); iexact HS1
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      iexact HR15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 37 := lt_of_lt_of_eq t.isLt (show cfg1.N = 37 from N_1)
  rcases Nat.eq_zero_or_pos t.val with h0 | h1
  · exact sound_first V c t h0
  rcases Nat.lt_or_ge t.val 36 with h2 | h2
  · exact sound_mid V c t h1 h2
  exact sound_last V c t (by omega)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdeal.Down.lean ====
/- The down projection region (custom_call 2) at any contents it is entered with: what its body leaves in the
   output block, the proof data of its pipeline and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x4736 := Rect.unit (s := S1024x4736) ![0, 0] S1024x4736.size inb_S1024x4736_S1024x4736_0_0
abbrev r2_1 : Rect S4736x512 := Rect.unit (s := S4736x512) ![0, 0] S4736x512.size inb_S4736x512_S4736x512_0_0
abbrev r2_2 : Rect S1024x1 := Rect.unit (s := S1024x1) ![0, 0] S1024x1.size inb_S1024x1_S1024x1_0_0
abbrev r2_3 : Rect S1x512 := Rect.unit (s := S1x512) ![0, 0] S1x512.size inb_S1x512_S1x512_0_0
abbrev r2_4 : Rect S1024x512 := Rect.unit (s := S1024x512) ![0, 0] S1024x512.size inb_S1024x512_S1024x512_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1024x4736 .fp8e4m3) (x1 : Vec F S1024x1 .f32) (x2 : Vec F S4736x512 .fp8e4m3) (x3 : Vec F S1x512 .f32) : Vec F S1024x512 .bf16 :=
  View.canon [⟨r2_4, k2_pay1 (View.ld x0 r2_0) (View.ld x2 r2_1) (View.ld x1 r2_2) (View.ld x3 r2_3)⟩]

/-- Its stores tile the buffer (checked by evaluation), so they cover it. -/
theorem cover2_4 (p0 : Vec F S1024x512 .bf16) (y : S1024x512.Idx) :
    ∃ pc ∈ ([⟨r2_4, p0⟩] : List (View.Piece (Elt F) S1024x512 .bf16)), y ∈ pc.1.set :=
  View.cover_of_tiled [⟨r2_4, p0⟩] S1024x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S1024x4736 .fp8e4m3) (harg1 : arg1.IsWhole) (arg2 : Memref sig .tc .vmem S1024x1 .f32) (harg2 : arg2.IsWhole) (arg3 : Memref sig .tc .vmem S4736x512 .fp8e4m3) (harg3 : arg3.IsWhole) (arg4 : Memref sig .tc .vmem S1x512 .f32) (harg4 : arg4.IsWhole) (arg5 : Memref sig .tc .vmem S1024x512 .bf16) (harg5 : arg5.IsWhole)
    (x0 : Vec F S1024x4736 .fp8e4m3) (x1 : Vec F S1024x1 .f32) (x2 : Vec F S4736x512 .fp8e4m3) (x3 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2_down i arg1 harg1 arg2 harg2 arg3 harg3 arg4 harg4 arg5 harg5) K := by
  simp only [cc2_down_eq_skeleton]; unfold cc2_down_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.KernelIdeal.Run.lean ====
/- The whole program: the buffer contents at every boundary between its host stretches and its three regions,
   each region as a segment, and the run from any launch memory. -/
module

public import proofs.«01_k».proof.Proof.KernelIdeal.Quant
public import proofs.«01_k».proof.Proof.KernelIdeal.GateUp
public import proofs.«01_k».proof.Proof.KernelIdeal.Down
public import Idealize.ShloMosaic.Lib.Pipeline.RegionsLoop
public import Idealize.ShloMosaic.Lib.Pipeline.FrameSuffix

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    refine BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, every
    unscoped buffer ending at the last boundary's contents (`W6`) and every semaphore counter at zero: the kit's launch over
    the segments, the last thread state read against the final state (`pointsTo_read_all`). -/
theorem run : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- THE FRAME: the argument arrays end as launched (each by `W6_<arg>`) and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c)⟩, h.2⟩) (run m ρ)

end Cert.KernelIdeal.Hand

end
-- ==== Proof.Value.Rows.lean ====
/-
  Reading the layout and reduction operations of the two programs at one index, with the sizes free: a row's reduction
  set as a column, a column or a row spread over a matrix, and casts that add or drop a leading unit axis. Every
  payload is read through these, so that no proof ever meets a large size as a numeral.
-/
module

public import Idealize.ShloMosaic.Lib.Pointwise
public import Idealize.ShloMosaic.Lib.Pipeline.Value
public import Idealize.ShloMosaic.PureOps.Ideal

@[expose] public section

noncomputable section

namespace Cert.Value
open Idealize.ShloMosaic

variable {α : Type} {A B C R : ℕ}

/-- A vector cast to a column: row `r` is element `r`. -/
theorem shapeCast_col (v : (⟨1, ![R]⟩ : Shape).Idx → α) (h : (⟨1, ![R]⟩ : Shape).ShapeCasts ⟨2, ![R, 1]⟩)
    (r : Fin R) (z : Fin 1) : shapeCast ⟨2, ![R, 1]⟩ v h (ix2 r z) = v (ix1 r) := by
  refine congrArg v (Shape.reshapeEquiv_eq_of_rowMajor h ?_)
  rw [rowMajor_val1, rowMajor_val2 _ 1 rfl]
  have : (z : ℕ) = 0 := by omega
  show (r : ℕ) = (r : ℕ) * 1 + (z : ℕ)
  omega

/-- A matrix cast to a stack of one matrix. -/
theorem shapeCast_stack (v : (⟨2, ![A, B]⟩ : Shape).Idx → α) (h : (⟨2, ![A, B]⟩ : Shape).ShapeCasts ⟨3, ![1, A, B]⟩)
    (z : Fin 1) (a : Fin A) (b : Fin B) : shapeCast ⟨3, ![1, A, B]⟩ v h (ix3 z a b) = v (ix2 a b) := by
  refine congrArg v (Shape.reshapeEquiv_eq_of_rowMajor h ?_)
  rw [rowMajor_val2 _ B rfl, rowMajor_val3 _ (A * B) B rfl rfl]
  have : (z : ℕ) = 0 := by omega
  show (a : ℕ) * B + (b : ℕ) = (z : ℕ) * (A * B) + (a : ℕ) * B + (b : ℕ)
  rw [this]; ring

/-- A stack of one matrix cast to the matrix. -/
theorem shapeCast_unstack (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 0 a b) := by
  refine congrArg v (Shape.reshapeEquiv_eq_of_rowMajor h ?_)
  rw [rowMajor_val2 _ B rfl, rowMajor_val3 _ (A * B) B rfl rfl]
  show 0 * (A * B) + (a : ℕ) * B + (b : ℕ) = (a : ℕ) * B + (b : ℕ)
  ring

/-- A column spread over a matrix. -/
theorem broadcastTo_col (v : (⟨2, ![R, 1]⟩ : Shape).Idx → α) (h : (⟨2, ![R, 1]⟩ : Shape).Broadcasts ⟨2, ![R, C]⟩)
    (r : Fin R) (c : Fin C) : broadcastTo ⟨2, ![R, C]⟩ v h (ix2 r c) = v (ix2 r 0) := by
  rw [Pointwise.broadcastTo_apply]
  congr 1
  funext a
  match a with
  | ⟨0, _⟩ =>
    apply Fin.ext
    simp only [Shape.Idx.norm]
    split_ifs with h1
    · have : R = 1 := h1
      have := r.isLt
      show 0 = (r : ℕ)
      omega
    · rfl
  | ⟨1, _⟩ => apply Fin.ext; simp [Shape.Idx.norm]

/-- A row spread over a matrix. -/
theorem broadcastTo_row (v : (⟨2, ![1, C]⟩ : Shape).Idx → α) (h : (⟨2, ![1, C]⟩ : Shape).Broadcasts ⟨2, ![R, C]⟩)
    (r : Fin R) (c : Fin C) : broadcastTo ⟨2, ![R, C]⟩ v h (ix2 r c) = v (ix2 0 c) := by
  rw [Pointwise.broadcastTo_apply]
  congr 1
  funext a
  match a with
  | ⟨0, _⟩ => apply Fin.ext; simp [Shape.Idx.norm]
  | ⟨1, _⟩ =>
    apply Fin.ext
    simp only [Shape.Idx.norm]
    split_ifs with h1
    · have : C = 1 := h1
      have := c.isLt
      show 0 = (c : ℕ)
      omega
    · rfl

/-- A row's maximum of floats. -/
theorem rowMaxf {φ : FTy} (v : FVec Ideal (⟨2, ![R, C]⟩ : Shape) φ) (b : BitVec φ.bits)
    (h : (⟨2, ![R, C]⟩ : Shape).Reduces [1] ⟨1, ![R]⟩) (h1 h2) (r : Fin R) :
    multiReduction .maximumf [1] ⟨1, ![R]⟩ v b h h1 h2 (ix1 r)
      = Finset.univ.fold max (Ideal.ofBits φ b) fun k : Fin C => v (ix2 r k) := by
  rw [multiReduction_maximumf_eq_fold, Shape.Reduces.fold_fiber_r2_a1]
  rfl

/-- A row's maximum of words. -/
theorem rowMaxsi (v : IVec (⟨2, ![R, C]⟩ : Shape) 32) (b : BitVec 32)
    (h : (⟨2, ![R, C]⟩ : Shape).Reduces [1] ⟨1, ![R]⟩) (h2) (r : Fin R) :
    multiReductionI .maxsi [1] ⟨1, ![R]⟩ v b h h2 (ix1 r)
      = Finset.univ.fold IntOp.maxsi b fun k : Fin C => v (ix2 r k) := by
  rw [multiReductionI_eq_fold, Shape.Reduces.fold_fiber_r2_a1]
  rfl

end Cert.Value
-- ==== Proof.Value.Scale.lean ====
/-
  One row's scale. The kernel finds the exponent by comparing with every power of two a float can hold and builds the
  scale from exponent bits; the reference takes the floor of the binary logarithm and an exponential. Here both are
  written as functions of the one number they start from, the row's scaled maximum, and shown equal for every extended
  real.
-/
module

public import Idealize.ShloMosaic.PureOps.Ideal
public import Idealize.ShloMosaic.PureOps.Vector
public import Idealize.ShloMosaic.PureOps.Reduce

@[expose] public section

noncomputable section

namespace Cert.Value
open Idealize.ShloMosaic

/-! ### The two computations -/

/-- The word whose exponent field is `k`. -/
def powWord (k : ℕ) : BitVec 32 := IntOp.shli .vector (BitVec.ofNat 32 k) 23#32

/-- The largest such word whose float does not exceed `v`. -/
def expWord (v : EReal) : BitVec 32 :=
  Finset.univ.fold IntOp.maxsi 2147483648#32 fun k : Fin 256 =>
    Scalar.select (Ideal.cmp .oge v (Ideal.ofBits .f32 (powWord k))) (powWord k) 0#32

/-- A word's exponent field. -/
def field (w : BitVec 32) : BitVec 32 := IntOp.andi (IntOp.shrsi .vector w 23#32) 255#32

/-- The exponent of a word's float, none for a zero or an infinity. -/
def expOf (w : BitVec 32) : BitVec 32 :=
  Scalar.select (IntOp.ori (IntOp.cmpi .eq (field w) 0#32) (IntOp.cmpi .eq (field w) 255#32)) 0#32
    (IntOp.subi (field w) 126#32)

/-- The word of two to the exponent. -/
def upWord (e : BitVec 32) : BitVec 32 :=
  IntOp.shli .vector (IntOp.minsi 255#32 (IntOp.maxsi 0#32 (IntOp.addi 127#32 e))) 23#32

/-- The word of two to minus the exponent. -/
def downWord (e : BitVec 32) : BitVec 32 :=
  IntOp.shli .vector (IntOp.minsi 255#32 (IntOp.maxsi 0#32 (IntOp.subi 127#32 e))) 23#32

/-- The kernel's scale. -/
def kScale (v : EReal) : EReal := Ideal.ofBits .f32 (upWord (expOf (expWord v)))

/-- The kernel's inverse scale. -/
def kInv (v : EReal) : EReal := Ideal.ofBits .f32 (downWord (expOf (expWord v)))

/-- The reference's exponent. -/
def refExp (v : EReal) : EReal :=
  Scalar.select (IntOp.andi (Ideal.cmp .oge v (Ideal.ofBits .f32 0x00800000#32))
      (Ideal.cmp .olt v (Ideal.ofBits .f32 0x7F800000#32)))
    (Ideal.liftRound Int.floor (Ideal.div (Ideal.log v) (Ideal.log (Ideal.ofBits .f32 0x40000000#32)))
      + Ideal.ofBits .f32 0x3F800000#32)
    (Ideal.ofBits .f32 0x00000000#32)

/-- The reference's power of two, with a float's overflow and underflow. -/
def refPow2 (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32)
      (Ideal.exp2 e))

/-! ### What the words decode to -/

theorem powWord_fields : ∀ k : Fin 256, (powWord k).extractLsb' 31 1 = 0#1 ∧
    ((powWord k).extractLsb' 23 8).toNat = k.val ∧ ((powWord k).extractLsb' 0 23).toNat = 0 := by
  decide +kernel

/-- The float of exponent field `k`: zero, a power of two, or infinity. -/
theorem ofBits_powWord (k : ℕ) (hk : k < 256) : Ideal.ofBits .f32 (powWord k)
    = if k = 255 then ⊤ else if k = 0 then 0 else (((2 : ℝ) ^ ((k : ℤ) - 127) : ℝ) : EReal) := by
  obtain ⟨h1, h2, h3⟩ := powWord_fields ⟨k, hk⟩
  simp only at h1 h2 h3
  simp only [Ideal.ofBits, Ideal.ieee]
  rw [show (8 + 23 : ℕ) = 31 from rfl, h1, h2, h3]
  have h0 : ((0#1 == 1#1) = true) = False := by simp
  simp only [show (2 : ℕ) ^ 8 - 1 = 255 from rfl, h0, if_true, if_false]
  split_ifs
  · rfl
  · rw [Nat.cast_zero, mul_zero, zero_mul, EReal.coe_zero]
  · refine EReal.coe_eq_coe_iff.2 ?_
    rw [one_mul, add_zero, Nat.cast_pow, Nat.cast_ofNat, ← zpow_natCast, ← zpow_add₀ (by norm_num)]
    refine congrArg (fun z : ℤ => (2 : ℝ) ^ z) ?_
    push_cast
    ring

/-- Kept up to exponent field `K`, the largest word is that of `K`. -/
theorem fold_powWord : ∀ K : Fin 256, (Finset.univ.fold IntOp.maxsi 2147483648#32 fun k : Fin 256 =>
    if k.val ≤ K.val then powWord k else 0#32) = powWord K := by
  decide +kernel

/-- The words of the scale and its inverse, from the exponent field found. -/
theorem words : ∀ K : Fin 256,
    upWord (expOf (powWord K)) = powWord (if K.val = 0 ∨ K.val = 255 then 127 else K.val + 1) ∧
    downWord (expOf (powWord K)) = powWord (if K.val = 0 ∨ K.val = 255 then 127 else 253 - K.val) := by
  decide +kernel

/-- The word found, from the comparisons. -/
theorem expWord_eq (v : EReal) (K : ℕ) (hK : K < 256)
    (h : ∀ k, 1 ≤ k → k < 256 → (Ideal.ofBits .f32 (powWord k) ≤ v ↔ k ≤ K)) : expWord v = powWord K := by
  rw [← fold_powWord ⟨K, hK⟩]
  unfold expWord
  refine Finset.fold_congr fun k _ => ?_
  rcases Nat.eq_zero_or_pos k.val with h0 | h0
  · rw [h0, show powWord 0 = 0#32 from by decide]
    simp [Scalar.select]
  · have := h k.val h0 k.isLt
    by_cases hle : k.val ≤ K
    · simp [Scalar.select, Ideal.cmp, this.2 hle, hle]
    · simp [Scalar.select, Ideal.cmp, mt this.1 hle, hle]

/-! ### The constants -/

theorem ofBits_zero : Ideal.ofBits .f32 0x00000000#32 = 0 := by
  rw [show (0x00000000#32) = powWord 0 from by decide, ofBits_powWord _ (by norm_num)]; norm_num
theorem ofBits_tiny : Ideal.ofBits .f32 0x00800000#32 = (((2 : ℝ) ^ (-126 : ℤ) : ℝ) : EReal) := by
  rw [show (0x00800000#32) = powWord 1 from by decide, ofBits_powWord _ (by norm_num)]; norm_num
theorem ofBits_inf : Ideal.ofBits .f32 0x7F800000#32 = ⊤ := by
  rw [show (0x7F800000#32) = powWord 255 from by decide, ofBits_powWord _ (by norm_num)]; norm_num
theorem ofBits_one : Ideal.ofBits .f32 0x3F800000#32 = ((1 : ℝ) : EReal) := by
  rw [show (0x3F800000#32) = powWord 127 from by decide, ofBits_powWord _ (by norm_num)]; norm_num
theorem ofBits_two : Ideal.ofBits .f32 0x40000000#32 = ((2 : ℝ) : EReal) := by
  rw [show (0x40000000#32) = powWord 128 from by decide, ofBits_powWord _ (by norm_num)]; norm_num
theorem ofBits_127 : Ideal.ofBits .f32 0x42FE0000#32 = ((127 : ℝ) : EReal) := by
  simp [Ideal.ofBits, Ideal.ieee, -EReal.coe_mul]; norm_num
theorem ofBits_neg126 : Ideal.ofBits .f32 0xC2FC0000#32 = ((-126 : ℝ) : EReal) := by
  simp [Ideal.ofBits, Ideal.ieee, -EReal.coe_mul]; norm_num

/-! ### The reference's power of two at an integer -/

theorem refPow2_int (n : ℤ) : refPow2 ((n : ℝ) : EReal)
    = if 127 < n then ⊤ else if n < -126 then 0 else (((2 : ℝ) ^ n : ℝ) : EReal) := by
  simp only [refPow2, ofBits_127, ofBits_neg126, ofBits_zero, ofBits_inf, Ideal.cmp, Scalar.select,
    EReal.coe_lt_coe_iff]
  have h1 : ((127 : ℝ) < (n : ℝ)) = (127 < n) := by rw [eq_iff_iff]; exact_mod_cast Iff.rfl
  have h2 : ((n : ℝ) < (-126 : ℝ)) = (n < -126) := by rw [eq_iff_iff]; exact_mod_cast Iff.rfl
  have h3 : Ideal.exp2 ((n : ℝ) : EReal) = (((2 : ℝ) ^ n : ℝ) : EReal) := by
    rw [← Real.rpow_intCast]
    rfl
  simp only [h1, h2, h3]
  by_cases a : 127 < n
  · simp [a]
  · by_cases b : n < -126
    · simp [a, b]
    · simp [a, b]

/-! ### The cases -/

/-- With no exponent both sides scale by one. -/
theorem one_case (v : EReal) (K : ℕ) (hK : K = 0 ∨ K = 255) (hw : expWord v = powWord K) (he : refExp v = 0) :
    kScale v = refPow2 (refExp v) ∧ kInv v = refPow2 (Ideal.ofBits .f32 0x00000000#32 - refExp v) := by
  have h256 : K < 256 := by omega
  obtain ⟨hu, hd⟩ := words ⟨K, h256⟩
  have hz : refPow2 0 = 1 := by
    have := refPow2_int 0
    norm_num at this
    exact this
  have h127 : Ideal.ofBits .f32 (powWord 127) = 1 := by rw [ofBits_powWord _ (by norm_num)]; norm_num
  rw [kScale, kInv, hw, he, ofBits_zero, sub_zero, hz, hu, hd, if_pos hK, if_pos hK, h127]
  exact ⟨rfl, rfl⟩

/-- With exponent `n + 1` both sides scale by that power of two. -/
theorem pow_case (v : EReal) (n : ℤ) (hn : -126 ≤ n) (hw : expWord v = powWord (min (n + 127) 254).toNat)
    (he : refExp v = (((n + 1 : ℤ) : ℝ) : EReal)) :
    kScale v = refPow2 (refExp v) ∧ kInv v = refPow2 (Ideal.ofBits .f32 0x00000000#32 - refExp v) := by
  obtain ⟨K, hKdef⟩ : ∃ K : ℕ, K = (min (n + 127) 254).toNat := ⟨_, rfl⟩
  rw [← hKdef] at hw
  have hK1 : 1 ≤ K ∧ K ≤ 254 := by omega
  have hK : ¬ (K = 0 ∨ K = 255) := by omega
  obtain ⟨hu, hd⟩ := words ⟨K, by omega⟩
  have hneg : (0 : EReal) - (((n + 1 : ℤ) : ℝ) : EReal) = (((-(n + 1) : ℤ) : ℝ) : EReal) := by
    rw [zero_sub, ← EReal.coe_neg, Int.cast_neg]
  rw [kScale, kInv, hw, he, ofBits_zero, hneg, refPow2_int, refPow2_int, hu, hd, if_neg hK, if_neg hK,
    ofBits_powWord _ (by simp only; omega), ofBits_powWord _ (by simp only; omega)]
  simp only
  constructor
  · by_cases h : 127 < n + 1
    · rw [if_pos h, if_pos (by omega)]
    · rw [if_neg h, if_neg (by omega), if_neg (by omega), if_neg (by omega)]
      congr 2
      omega
  · rw [if_neg (by omega), if_neg (show ¬ 127 < -(n + 1) by omega)]
    by_cases h : -(n + 1) < -126
    · rw [if_pos h, if_pos (by omega)]
    · rw [if_neg h, if_neg (by omega)]
      congr 2
      omega

/-- Scale and inverse scale agree, whatever the row's maximum. -/
theorem scales_eq (v : EReal) :
    kScale v = refPow2 (refExp v) ∧ kInv v = refPow2 (Ideal.ofBits .f32 0x00000000#32 - refExp v) := by
  by_cases htiny : v < (((2 : ℝ) ^ (-126 : ℤ) : ℝ) : EReal)
  · refine one_case v 0 (.inl rfl) (expWord_eq v 0 (by norm_num) fun k h1 h2 => ?_) ?_
    · refine ⟨fun h => absurd (lt_of_le_of_lt h htiny) (not_lt.2 ?_), fun h => absurd h (by omega)⟩
      rw [ofBits_powWord k h2]
      split_ifs
      · exact le_top
      · omega
      · exact EReal.coe_le_coe_iff.2 (zpow_le_zpow_right₀ (by norm_num) (by omega))
    · have c : Ideal.cmp .oge v (((2 : ℝ) ^ (-126 : ℤ) : ℝ) : EReal) = 0#1 := by
        simp only [Ideal.cmp, not_le.2 htiny, decide_false]; rfl
      have c' : ∀ w : BitVec 1, IntOp.andi 0#1 w = 0#1 := by decide
      rw [refExp, ofBits_tiny, ofBits_zero, c, c']
      rfl
  · rw [not_lt] at htiny
    induction v using EReal.rec with
    | bot => simp at htiny
    | top =>
      refine one_case ⊤ 255 (.inr rfl) (expWord_eq ⊤ 255 (by norm_num) fun k h1 h2 => ?_) ?_
      · exact ⟨fun _ => by omega, fun _ => le_top⟩
      · simp [refExp, ofBits_inf, ofBits_zero, Ideal.cmp, Scalar.select, IntOp.andi]
    | coe r =>
      have hr : (2 : ℝ) ^ (-126 : ℤ) ≤ r := EReal.coe_le_coe_iff.1 htiny
      have hpos : 0 < r := lt_of_lt_of_le (by positivity) hr
      have hfl : ∀ k : ℤ, (2 : ℝ) ^ k ≤ r ↔ k ≤ ⌊Real.log r / Real.log 2⌋ := fun k => by
        rw [Int.le_floor, le_div_iff₀ (Real.log_pos (by norm_num)), ← Real.log_zpow,
          Real.log_le_log_iff (by positivity) hpos]
      have hn : -126 ≤ ⌊Real.log r / Real.log 2⌋ := (hfl _).1 hr
      refine pow_case r ⌊Real.log r / Real.log 2⌋ hn (expWord_eq r _ (by omega) fun k h1 h2 => ?_) ?_
      · rw [ofBits_powWord k h2]
        split_ifs with h255 h0
        · exact ⟨fun h => absurd (top_le_iff.1 h) (EReal.coe_ne_top r), fun h => by omega⟩
        · omega
        · rw [EReal.coe_le_coe_iff, hfl]
          omega
      · have hlog : Ideal.log (r : EReal) = ((Real.log r : ℝ) : EReal) := by
          show (if r ≤ 0 then (⊥ : EReal) else ((Real.log r : ℝ) : EReal)) = _
          rw [if_neg (not_le.2 hpos)]
        have hlog2 : Ideal.log ((2 : ℝ) : EReal) = ((Real.log 2 : ℝ) : EReal) := by
          show (if (2 : ℝ) ≤ 0 then (⊥ : EReal) else ((Real.log 2 : ℝ) : EReal)) = _
          rw [if_neg (by norm_num)]
        have h2 : Real.log 2 ≠ 0 := (Real.log_pos (by norm_num)).ne'
        have hdiv : Ideal.div ((Real.log r : ℝ) : EReal) ((Real.log 2 : ℝ) : EReal)
            = ((Real.log r / Real.log 2 : ℝ) : EReal) := by
          rw [Ideal.div, if_neg (by exact_mod_cast h2), ← EReal.coe_inv, ← EReal.coe_mul, div_eq_mul_inv]
        rw [refExp, ofBits_tiny, ofBits_inf, ofBits_two, hlog, hlog2, hdiv, ofBits_one]
        have c1 : Ideal.cmp .oge (r : EReal) (((2 : ℝ) ^ (-126 : ℤ) : ℝ) : EReal) = 1#1 := by
          simp only [Ideal.cmp, htiny, decide_true]; rfl
        have c2 : Ideal.cmp .olt (r : EReal) ⊤ = 1#1 := by
          simp only [Ideal.cmp, EReal.coe_lt_top, decide_true]; rfl
        rw [c1, c2, show IntOp.andi 1#1 1#1 = 1#1 from rfl]
        show (((⌊Real.log r / Real.log 2⌋ : ℤ) : ℝ) : EReal) + _ = _
        rw [← EReal.coe_add, Int.cast_add, Int.cast_one]

end Cert.Value
-- ==== Proof.Value.Quantise.lean ====
/-
  The quantiser of the two programs, read at one index: a row's scaled maximum, its scale, and a code.
-/
module

public import proofs.«01_k».proof.Proof.Gen.KernelIdeal.Skeleton
public import proofs.«01_k».proof.Proof.Value.Rows
public import proofs.«01_k».proof.Proof.Value.Scale

@[expose] public section

noncomputable section

namespace Cert.Value
open Idealize.ShloMosaic

variable {R C : ℕ}

/-- The number a row's scale is made of: the largest magnitude, by the reciprocal of the largest code. -/
def amax (row : Fin C → EReal) : EReal :=
  Finset.univ.fold max (Ideal.ofBits .f32 0xFF800000#32) (fun k => max (row k) (-row k)) * Ideal.ofBits .f32 0x3B124925#32

/-- A code: the value by the inverse scale, held to the format's range. -/
def code (a inv : EReal) : EReal :=
  min (Ideal.ofBits .f32 0x43E00000#32) (max (Ideal.ofBits .f32 0xC3E00000#32) (a * inv))

/-- The scaled row maximum as either program writes it. -/
theorem amax_vec (X : FVec Ideal (⟨2, ![R, C]⟩ : Shape) .f32)
    (h : (⟨2, ![R, C]⟩ : Shape).Reduces [1] ⟨1, ![R]⟩) (h1 h2) (hc : (⟨1, ![R]⟩ : Shape).ShapeCasts ⟨2, ![R, 1]⟩)
    (r : Fin R) (z : Fin 1) :
    mulf (shapeCast ⟨2, ![R, 1]⟩ (multiReduction .maximumf [1] ⟨1, ![R]⟩ (absf X) 0xFF800000#32 h h1 h2) hc)
      (broadcast ⟨2, ![R, 1]⟩ (Scalar.ofBits (F := Ideal) .f32 0x3B124925#32)) (ix2 r z)
      = amax fun k : Fin C => X (ix2 r k) := by
  rw [mulf_apply, shapeCast_col, rowMaxf]
  rfl

/-- The scaled row maximum of what already is a magnitude. -/
theorem max_vec (X : FVec Ideal (⟨2, ![R, C]⟩ : Shape) .f32)
    (h : (⟨2, ![R, C]⟩ : Shape).Reduces [1] ⟨1, ![R]⟩) (h1 h2) (hc : (⟨1, ![R]⟩ : Shape).ShapeCasts ⟨2, ![R, 1]⟩)
    (r : Fin R) (z : Fin 1) :
    mulf (shapeCast ⟨2, ![R, 1]⟩ (multiReduction .maximumf [1] ⟨1, ![R]⟩ X 0xFF800000#32 h h1 h2) hc)
      (broadcast ⟨2, ![R, 1]⟩ (Scalar.ofBits (F := Ideal) .f32 0x3B124925#32)) (ix2 r z)
      = Finset.univ.fold max (Ideal.ofBits .f32 0xFF800000#32) (fun k : Fin C => X (ix2 r k))
          * Ideal.ofBits .f32 0x3B124925#32 := by
  rw [mulf_apply, shapeCast_col, rowMaxf]
  rfl

/-- The exponent word as the kernel writes it. -/
theorem expWord_vec (v : FVec Ideal (⟨2, ![R, 1]⟩ : Shape) .f32)
    (hi : (⟨2, ![R, 256]⟩ : Shape).Iotas .tc 32 [1]) (hb : (⟨2, ![R, 1]⟩ : Shape).Broadcasts ⟨2, ![R, 256]⟩)
    (h : (⟨2, ![R, 256]⟩ : Shape).Reduces [1] ⟨1, ![R]⟩) (h2)
    (hc : (⟨1, ![R]⟩ : Shape).ShapeCasts ⟨2, ![R, 1]⟩) (r : Fin R) (z : Fin 1) :
    shapeCast ⟨2, ![R, 1]⟩ (multiReductionI .maxsi [1] ⟨1, ![R]⟩
      (select (cmpf .oge (broadcastTo ⟨2, ![R, 256]⟩ v hb)
          (bitcastToFloat .f32 (shli (iota .tc ⟨2, ![R, 256]⟩ 32 [1] hi) (broadcast ⟨2, ![R, 256]⟩ 23#32))))
        (shli (iota .tc ⟨2, ![R, 256]⟩ 32 [1] hi) (broadcast ⟨2, ![R, 256]⟩ 23#32)) (broadcast ⟨2, ![R, 256]⟩ 0#32))
      2147483648#32 h h2) hc (ix2 r z) = expWord (v (ix2 r 0)) := by
  rw [shapeCast_col, rowMaxsi]
  refine Finset.fold_congr fun k _ => ?_
  have hk : shli (iota .tc ⟨2, ![R, 256]⟩ 32 [1] hi) (broadcast ⟨2, ![R, 256]⟩ 23#32) (ix2 r k) = powWord k := by
    show IntOp.shli .vector (BitVec.ofNat 32 (0 * 256 + (k : ℕ))) 23#32 = _
    rw [zero_mul, zero_add]
    rfl
  show Scalar.select (Ideal.cmp .oge (broadcastTo ⟨2, ![R, 256]⟩ v hb (ix2 r k)) (Ideal.ofBits .f32 (shli _ _ (ix2 r k))))
    (shli _ _ (ix2 r k)) 0#32 = _
  rw [hk, broadcastTo_col]

/-- A code as either program writes it, the inverse scale a column. -/
theorem code_vec (X : FVec Ideal (⟨2, ![R, C]⟩ : Shape) .f32) (inv : FVec Ideal (⟨2, ![R, 1]⟩ : Shape) .f32)
    (hb : (⟨2, ![R, 1]⟩ : Shape).Broadcasts ⟨2, ![R, C]⟩) (hlt : FTy.fp8e4m3.bits < FTy.f32.bits) (r : Fin R) (c : Fin C) :
    truncf .fp8e4m3 (minimumf (broadcast ⟨2, ![R, C]⟩ (Scalar.ofBits (F := Ideal) .f32 0x43E00000#32))
      (maximumf (broadcast ⟨2, ![R, C]⟩ (Scalar.ofBits (F := Ideal) .f32 0xC3E00000#32))
        (mulf X (broadcastTo ⟨2, ![R, C]⟩ inv hb)))) hlt (ix2 r c) = code (X (ix2 r c)) (inv (ix2 r 0)) := by
  rw [← broadcastTo_col inv hb r c]
  rfl

/-! ### The kernel's first region -/

section KernelX
open Cert.KernelIdeal Cert.KernelIdeal.Gen

theorem k0_ext (x : Vec Ideal S128x3584 .bf16) : k0_pay3 x = x := by
  unfold k0_pay3
  exact shapeCast_id x _

theorem k0_exp (x : Vec Ideal S128x3584 .bf16) (r : Fin 128) (z : Fin 1) :
    k0_pay4 x (ix2 r z) = expOf (expWord (amax fun k : Fin 3584 => x (ix2 r k))) := by
  refine (congrArg expOf (expWord_vec _ iota_S128x256_d1_w32 broadcasts_S128x1_S128x256 reduces_S128x256_S128 rfl
    shapeCasts_S128_S128x1 r z)).trans (congrArg (fun w => expOf (expWord w)) ?_)
  refine (amax_vec (k0_pay3 x) reduces_S128x3584_S128 (.inl rfl) rfl shapeCasts_S128_S128x1 r 0).trans ?_
  rw [k0_ext]

/-- A block's scale. -/
theorem k0_scale (x : Vec Ideal S128x3584 .bf16) (r : Fin 128) (z : Fin 1) :
    k0_pay1 (F := Ideal) (k0_pay5 x) (ix2 r z) = kScale (amax fun k : Fin 3584 => x (ix2 r k)) :=
  congrArg (fun e => Ideal.ofBits .f32 (upWord e)) (k0_exp x r z)

/-- A block's codes. -/
theorem k0_codes (x : Vec Ideal S128x3584 .bf16) (r : Fin 128) (c : Fin 3584) :
    k0_pay2 (F := Ideal) (k0_pay3 x) (k0_pay6 x) (ix2 r c)
      = code (x (ix2 r c)) (kInv (amax fun k : Fin 3584 => x (ix2 r k))) := by
  refine (code_vec (k0_pay3 x) _ broadcasts_S128x1_S128x3584 bitsLt_fp8e4m3_f32 r c).trans ?_
  rw [k0_ext]
  exact congrArg (fun e => code (x (ix2 r c)) (Ideal.ofBits .f32 (downWord e))) (k0_exp x r 0)

end KernelX

/-! ### The kernel's second region -/

section KernelH
open Cert.KernelIdeal Cert.KernelIdeal.Gen

theorem k1_exp (mx : Vec Ideal S1024x128 .f32) (r : Fin 1024) (z : Fin 1) :
    k1_pay2 mx (ix2 r z) = expOf (expWord (Finset.univ.fold max (Ideal.ofBits .f32 0xFF800000#32)
      (fun k : Fin 128 => mx (ix2 r k)) * Ideal.ofBits .f32 0x3B124925#32)) := by
  refine (congrArg expOf (expWord_vec _ iota_S1024x256_d1_w32 broadcasts_S1024x1_S1024x256 reduces_S1024x256_S1024 rfl
    shapeCasts_S1024_S1024x1 r z)).trans (congrArg (fun w => expOf (expWord w)) ?_)
  exact max_vec mx reduces_S1024x128_S1024 (.inl rfl) rfl shapeCasts_S1024_S1024x1 r 0

theorem k1_scale (mx : Vec Ideal S1024x128 .f32) (r : Fin 1024) (z : Fin 1) :
    k1_pay5 (F := Ideal) (k1_pay3 mx) (ix2 r z) = kScale (Finset.univ.fold max (Ideal.ofBits .f32 0xFF800000#32)
      (fun k : Fin 128 => mx (ix2 r k)) * Ideal.ofBits .f32 0x3B124925#32) :=
  congrArg (fun e => Ideal.ofBits .f32 (upWord e)) (k1_exp mx r z)

theorem k1_inv (mx : Vec Ideal S1024x128 .f32) (r : Fin 1024) (z : Fin 1) :
    k1_pay6 (F := Ideal) 255#32 (k1_pay4 mx) (ix2 r z) = kInv (Finset.univ.fold max (Ideal.ofBits .f32 0xFF800000#32)
      (fun k : Fin 128 => mx (ix2 r k)) * Ideal.ofBits .f32 0x3B124925#32) :=
  congrArg (fun e => Ideal.ofBits .f32 (downWord e)) (k1_exp mx r z)

theorem k1_codes (inv : FVec Ideal S1024x1 .f32) (s : Vec Ideal S1x1024x128 .f32) (r : Fin 1024) (c : Fin 128) :
    k1_pay1 inv s (ix2 r c) = code (s (ix3 0 r c)) (inv (ix2 r 0)) := by
  refine (code_vec (shapeCast S1024x128 s shapeCasts_S1x1024x128_S1024x128) inv broadcasts_S1024x1_S1024x128
    bitsLt_fp8e4m3_f32 r c).trans ?_
  rw [shapeCast_unstack]

end KernelH

end Cert.Value
-- ==== Proof.Value.RefQuantise.lean ====
/-
  The reference's quantiser, read at one index: the exponent of a row, its scale, and a code.
-/
module

public import proofs.«01_k».proof.Proof.Gen.ReferenceIdeal.Skeleton
public import proofs.«01_k».proof.Proof.Value.Quantise

@[expose] public section

noncomputable section

namespace Cert.Value
open Idealize.ShloMosaic

variable {R C : ℕ}

/-- The exponent as the reference writes it. -/
theorem refExp_vec (v : FVec Ideal (⟨2, ![R, 1]⟩ : Shape) .f32) (r : Fin R) (z : Fin 1) :
    select (andi (cmpf .oge v (broadcast ⟨2, ![R, 1]⟩ (Scalar.ofBits (F := Ideal) .f32 0x00800000#32)))
        (cmpf .olt v (broadcast ⟨2, ![R, 1]⟩ (Scalar.ofBits (F := Ideal) .f32 0x7F800000#32))))
      (addf (floor (divf (log v) (log (broadcast ⟨2, ![R, 1]⟩ (Scalar.ofBits (F := Ideal) .f32 0x40000000#32)))))
        (broadcast ⟨2, ![R, 1]⟩ (Scalar.ofBits (F := Ideal) .f32 0x3F800000#32)))
      (broadcast ⟨2, ![R, 1]⟩ (Scalar.ofBits (F := Ideal) .f32 0x00000000#32)) (ix2 r z) = refExp (v (ix2 r z)) := rfl

/-- A power of two as the reference writes it. -/
theorem refPow2_vec (e : FVec Ideal (⟨2, ![R, 1]⟩ : Shape) .f32) (r : Fin R) (z : Fin 1) :
    select (cmpf .ogt e (broadcast ⟨2, ![R, 1]⟩ (Scalar.ofBits (F := Ideal) .f32 0x42FE0000#32)))
      (broadcast ⟨2, ![R, 1]⟩ (Scalar.ofBits (F := Ideal) .f32 0x7F800000#32))
      (select (cmpf .olt e (broadcast ⟨2, ![R, 1]⟩ (Scalar.ofBits (F := Ideal) .f32 0xC2FC0000#32)))
        (broadcast ⟨2, ![R, 1]⟩ (Scalar.ofBits (F := Ideal) .f32 0x00000000#32)) (exp2 e)) (ix2 r z)
      = refPow2 (e (ix2 r z)) := rfl

/-- The negated exponent. -/
theorem neg_vec (e : FVec Ideal (⟨2, ![R, 1]⟩ : Shape) .f32) (r : Fin R) (z : Fin 1) :
    subf (broadcast ⟨2, ![R, 1]⟩ (Scalar.ofBits (F := Ideal) .f32 0x00000000#32)) e (ix2 r z)
      = Ideal.ofBits .f32 0x00000000#32 - e (ix2 r z) := rfl

open Cert.ReferenceIdeal Cert.ReferenceIdeal.Gen

theorem r0_ext (x : Vec Ideal S1024x3584 .bf16) : k0_pay1 x = x := by
  unfold k0_pay1
  exact shapeCast_id x _

/-- The exponent of a row of x. -/
theorem r_xexp (x : Vec Ideal S1024x3584 .bf16) (r : Fin 1024) (z : Fin 1) :
    k0_pay2 x (ix2 r z) = refExp (amax fun k : Fin 3584 => x (ix2 r k)) := by
  unfold k0_pay2
  rw [r0_ext]
  exact (refExp_vec _ r z).trans (congrArg refExp (amax_vec (R := 1024) (C := 3584) x reduces_S1024x3584_S1024 (.inl rfl) rfl
    shapeCasts_S1024_S1024x1 r z))

/-- The codes of x. -/
theorem r_xcodes (x : Vec Ideal S1024x3584 .bf16) (r : Fin 1024) (c : Fin 3584) :
    k0_pay3 x (ix2 r c) = code (x (ix2 r c))
      (refPow2 (Ideal.ofBits .f32 0x00000000#32 - refExp (amax fun k : Fin 3584 => x (ix2 r k)))) := by
  rw [← r_xexp x r 0]
  unfold k0_pay3
  rw [r0_ext]
  generalize k0_pay2 x = e
  refine (code_vec (R := 1024) (C := 3584) x _ broadcasts_S1024x1_S1024x3584 bitsLt_fp8e4m3_f32 r c).trans ?_
  exact congrArg (code (x (ix2 r c))) ((refPow2_vec _ r 0).trans (congrArg refPow2 (neg_vec e r 0)))

/-- The scale of x. -/
theorem r_xscale (x : Vec Ideal S1024x3584 .bf16) (r : Fin 1024) (z : Fin 1) :
    k0_pay6 (k0_pay2 x) (k0_pay4 x) (k0_pay5 x) (ix2 r z) = refPow2 (refExp (amax fun k : Fin 3584 => x (ix2 r k))) := by
  rw [← r_xexp x r z]
  unfold k0_pay6 k0_pay4 k0_pay5
  generalize k0_pay2 x = e
  exact refPow2_vec e r z

end Cert.Value
-- ==== Proof.Value.Product.lean ====
/-
  The products of the two programs, read at one index: a gate or an up value, the hidden value made of them, and an
  output value. The sizes are free where they can be.
-/
module

public import proofs.«01_k».proof.Proof.Gen.KernelIdeal.Skeleton
public import proofs.«01_k».proof.Proof.Gen.ReferenceIdeal.Skeleton
public import proofs.«01_k».proof.Proof.Value.RefQuantise
public import Idealize.ShloMosaic.Lib.MatmulPlain

@[expose] public section

noncomputable section

namespace Cert.Value
open Idealize.ShloMosaic

variable {M K N N' : ℕ}

/-- A dot product, onto the zero the accumulator starts at. -/
def dotp (a w : Fin K → EReal) : EReal := Ideal.ofBits .f32 0x00000000#32 + ∑ k, a k * w k

/-- A gated value. -/
def gated (g u : EReal) : EReal := g * Ideal.logistic g * u

/-- A block of columns cut out of a matrix. -/
theorem slice_cols {α : Type} (x : (⟨2, ![M, N']⟩ : Shape).Idx → α) (o : ℕ)
    (h : (⟨2, ![M, N']⟩ : Shape).Slices ![0, o] ⟨2, ![M, N]⟩) (r : Fin M) (c : Fin N) (c' : Fin N') (hc : (c' : ℕ) = o + c) :
    extractStridedSlice ⟨2, ![M, N]⟩ ![0, o] x h (ix2 r c) = x (ix2 r c') :=
  extractStridedSlice_apply _ x h _ _ fun a => by
    match a with
    | ⟨0, _⟩ => exact (Nat.zero_add _).symm
    | ⟨1, _⟩ => exact hc

/-- A product, at one index. -/
theorem product {φ₁ φ₂ : FTy} (X : FVec Ideal (⟨2, ![M, K]⟩ : Shape) φ₁) (W : FVec Ideal (⟨2, ![K, N]⟩ : Shape) φ₂)
    (r : Fin M) (c : Fin N) :
    matmul (DotDims.plain M K N) none X W (constant ⟨2, ![M, N]⟩ .f32 0x00000000#32) (ix2 r c)
      = dotp (fun k => X (ix2 r k)) (fun k => W (ix2 k c)) :=
  Ideal.matmul_plain_apply none X W _ r c

/-- Columns beside columns: the left ones. -/
theorem beside_left {α : Type} (a b : (⟨2, ![K, N]⟩ : Shape).Idx → α)
    (h : Shape.Concatenates [⟨2, ![K, N]⟩, ⟨2, ![K, N]⟩] ⟨2, ![K, N']⟩ 1) (k : Fin K) (c : Fin N) (c' : Fin N')
    (hc : (c' : ℕ) = c) : concatenate ⟨2, ![K, N']⟩ 1 [⟨⟨2, ![K, N]⟩, a⟩, ⟨⟨2, ![K, N]⟩, b⟩] h (ix2 k c') = a (ix2 k c) :=
  concatenate_pair_apply_left 1 a b h _ rfl _ fun x => by
    match x with
    | ⟨0, _⟩ => rfl
    | ⟨1, _⟩ => exact hc.symm

/-- Columns beside columns: the right ones. -/
theorem beside_right {α : Type} (a b : (⟨2, ![K, N]⟩ : Shape).Idx → α)
    (h : Shape.Concatenates [⟨2, ![K, N]⟩, ⟨2, ![K, N]⟩] ⟨2, ![K, N']⟩ 1) (k : Fin K) (c : Fin N) (c' : Fin N')
    (hc : (c' : ℕ) = N + c) : concatenate ⟨2, ![K, N']⟩ 1 [⟨⟨2, ![K, N]⟩, a⟩, ⟨⟨2, ![K, N]⟩, b⟩] h (ix2 k c') = b (ix2 k c) :=
  concatenate_pair_apply_right 1 a b h _ rfl rfl _
    (fun x hx => by
      match x with
      | ⟨0, _⟩ => rfl
      | ⟨1, _⟩ => exact absurd rfl hx)
    (by show (c : ℕ) + N = (c' : ℕ); omega)

/-- A product scaled by its row and its column. -/
theorem scaled {φ : FTy} (G : FVec Ideal (⟨2, ![M, N]⟩ : Shape) φ) (x : FVec Ideal (⟨2, ![M, 1]⟩ : Shape) φ)
    (s : FVec Ideal (⟨2, ![1, N]⟩ : Shape) φ) (hx : (⟨2, ![M, 1]⟩ : Shape).Broadcasts ⟨2, ![M, N]⟩)
    (hs : (⟨2, ![1, N]⟩ : Shape).Broadcasts ⟨2, ![M, N]⟩) (r : Fin M) (c : Fin N) :
    mulf (mulf G (broadcastTo ⟨2, ![M, N]⟩ x hx)) (broadcastTo ⟨2, ![M, N]⟩ s hs) (ix2 r c)
      = G (ix2 r c) * x (ix2 r 0) * s (ix2 0 c) := by
  rw [mulf_apply, mulf_apply, broadcastTo_col, broadcastTo_row]
  rfl

/-- The hidden value as either program writes it. -/
theorem gated_vec (G U : FVec Ideal (⟨2, ![M, N]⟩ : Shape) .f32) (r : Fin M) (c : Fin N) :
    mulf (mulf G (logistic G)) U (ix2 r c) = gated (G (ix2 r c)) (U (ix2 r c)) := rfl

section Kernel
open Cert.KernelIdeal Cert.KernelIdeal.Gen

/-- A tile's hidden value. -/
theorem k1_hidden (v0 v1 : Vec Ideal S3584x128 .fp8e4m3) (v3 : Vec Ideal S1024x3584 .fp8e4m3) (v6 : Vec Ideal S1024x1 .f32)
    (v11 v18 : Vec Ideal S1x1x128 .f32) (r : Fin 1024) (b : Fin 128) :
    k1_pay50 (F := Ideal) v0 v1 v3 v6 v11 v18 (ix2 r b)
      = gated (dotp (fun k : Fin 3584 => v3 (ix2 r k)) (fun k => v0 (ix2 k b)) * v6 (ix2 r 0) * v11 (ix3 0 0 b))
          (dotp (fun k : Fin 3584 => v3 (ix2 r k)) (fun k => v1 (ix2 k b)) * v6 (ix2 r 0) * v18 (ix3 0 0 b)) := by
  have hd : dot_S1024x3584_S3584x256_S1024x256_1_0_0_1_n_n = DotDims.plain 1024 3584 256 := rfl
  unfold k1_pay50
  rw [hd]
  refine (gated_vec _ _ r b).trans ?_
  refine congrArg₂ gated ?_ ?_
  · refine (scaled _ _ _ broadcasts_S1024x1_S1024x128 broadcasts_S1x128_S1024x128 r b).trans ?_
    rw [shapeCast_id, shapeCast_id, shapeCast_unstack, slice_cols _ 0 _ r b (⟨b, by omega⟩ : Fin 256) (by simp), product]
    simp only [beside_left v0 v1 _ _ b (⟨b, by omega⟩ : Fin 256) rfl]
  · refine (scaled _ _ _ broadcasts_S1024x1_S1024x128 broadcasts_S1x128_S1024x128 r b).trans ?_
    rw [shapeCast_id, shapeCast_id, shapeCast_unstack, slice_cols _ 128 _ r b (⟨128 + b, by omega⟩ : Fin 256) (by simp), product]
    simp only [beside_right v0 v1 _ _ b (⟨128 + b, by omega⟩ : Fin 256) rfl]

/-- An output block's value. -/
theorem k2_value (v0 : Vec Ideal S1024x4736 .fp8e4m3) (v2 : Vec Ideal S4736x512 .fp8e4m3) (v4 : Vec Ideal S1024x1 .f32)
    (v8 : Vec Ideal S1x512 .f32) (r : Fin 1024) (c : Fin 512) :
    k2_pay1 (F := Ideal) v0 v2 v4 v8 (ix2 r c)
      = dotp (fun k : Fin 4736 => v0 (ix2 r k)) (fun k => v2 (ix2 k c)) * v4 (ix2 r 0) * v8 (ix2 0 c) := by
  have hd : dot_S1024x4736_S4736x512_S1024x512_1_0_0_1_n_n = DotDims.plain 1024 4736 512 := rfl
  unfold k2_pay1
  rw [hd, shapeCast_id, shapeCast_id, shapeCast_id]
  refine (scaled _ v4 v8 broadcasts_S1024x1_S1024x512 broadcasts_S1x512_S1024x512 r c).trans ?_
  rw [product]

end Kernel

section Reference
open Cert.ReferenceIdeal Cert.ReferenceIdeal.Gen

/-- The hidden value. -/
theorem r_hidden (v21 : FVec Ideal S1024x1 .f32) (v39 : FVec Ideal S1024x3584 .fp8e4m3) (v40 : FVec Ideal S1024x1 .f32)
    (v42 : IVec S1024x1 1) (v49 : Vec Ideal S3584x9472 .fp8e4m3) (v53 : Vec Ideal S1x9472 .f32) (r : Fin 1024) (c : Fin 4736)
    (g u : Fin 9472) (hg : (g : ℕ) = c) (hu : (u : ℕ) = 4736 + c) :
    k0_pay7 (F := Ideal) v21 v39 v40 v42 v49 v53 (ix2 r c)
      = gated (dotp (fun k : Fin 3584 => v39 (ix2 r k)) (fun k => v49 (ix2 k g)) * k0_pay6 v21 v40 v42 (ix2 r 0) * v53 (ix2 0 g))
          (dotp (fun k : Fin 3584 => v39 (ix2 r k)) (fun k => v49 (ix2 k u)) * k0_pay6 v21 v40 v42 (ix2 r 0) * v53 (ix2 0 u)) := by
  have hd : dot_S1024x3584_S3584x9472_S1024x9472_1_0_0_1_n_n = DotDims.plain 1024 3584 9472 := rfl
  unfold k0_pay7
  rw [hd, shapeCast_id]
  refine (gated_vec _ _ r c).trans ?_
  rw [slice_cols _ 0 _ r c g (by omega), slice_cols _ 4736 _ r c u hu]
  refine congrArg₂ gated ?_ ?_
  · refine (scaled _ _ v53 broadcasts_S1024x1_S1024x9472 broadcasts_S1x9472_S1024x9472 r g).trans ?_
    rw [product]
  · refine (scaled _ _ v53 broadcasts_S1024x1_S1024x9472 broadcasts_S1x9472_S1024x9472 r u).trans ?_
    rw [product]

/-- The exponent of a row of hidden values. -/
theorem r_hexp (v21 : FVec Ideal S1024x1 .f32) (v39 : FVec Ideal S1024x3584 .fp8e4m3) (v40 : FVec Ideal S1024x1 .f32)
    (v42 : IVec S1024x1 1) (v49 : Vec Ideal S3584x9472 .fp8e4m3) (v53 : Vec Ideal S1x9472 .f32) (r : Fin 1024) (z : Fin 1) :
    k0_pay8 v21 v39 v40 v42 v49 v53 (ix2 r z)
      = refExp (amax fun k : Fin 4736 => k0_pay7 v21 v39 v40 v42 v49 v53 (ix2 r k)) := by
  unfold k0_pay8
  generalize k0_pay7 v21 v39 v40 v42 v49 v53 = h
  exact (refExp_vec _ r z).trans (congrArg refExp (amax_vec (R := 1024) (C := 4736) h reduces_S1024x4736_S1024 (.inl rfl) rfl
    shapeCasts_S1024_S1024x1 r z))

/-- The codes of the hidden values. -/
theorem r_hcodes (v21 : FVec Ideal S1024x1 .f32) (v39 : FVec Ideal S1024x3584 .fp8e4m3) (v40 : FVec Ideal S1024x1 .f32)
    (v42 : IVec S1024x1 1) (v49 : Vec Ideal S3584x9472 .fp8e4m3) (v53 : Vec Ideal S1x9472 .f32) (r : Fin 1024) (c : Fin 4736) :
    k0_pay12 (k0_pay7 v21 v39 v40 v42 v49 v53) (k0_pay9 v21 v39 v40 v42 v49 v53) (k0_pay10 v21 v39 v40 v42 v49 v53)
        (k0_pay11 v21 v39 v40 v42 v49 v53) (ix2 r c)
      = code (k0_pay7 v21 v39 v40 v42 v49 v53 (ix2 r c)) (refPow2 (Ideal.ofBits .f32 0x00000000#32
          - refExp (amax fun k : Fin 4736 => k0_pay7 v21 v39 v40 v42 v49 v53 (ix2 r k)))) := by
  rw [← r_hexp v21 v39 v40 v42 v49 v53 r 0]
  unfold k0_pay12 k0_pay10 k0_pay11 k0_pay9
  generalize k0_pay8 v21 v39 v40 v42 v49 v53 = e
  generalize k0_pay7 v21 v39 v40 v42 v49 v53 = h
  refine (code_vec (R := 1024) (C := 4736) h _ broadcasts_S1024x1_S1024x4736 bitsLt_fp8e4m3_f32 r c).trans ?_
  exact congrArg (code (h (ix2 r c))) ((refPow2_vec _ r 0).trans (congrArg refPow2 (neg_vec e r 0)))

/-- The scale of the hidden values. -/
theorem r_hscale (e : FVec Ideal S1024x1 .f32) (r : Fin 1024) (z : Fin 1) : k0_pay13 e (ix2 r z) = refPow2 (e (ix2 r z)) := by
  unfold k0_pay13
  exact refPow2_vec e r z

/-- An output value. -/
theorem r_value (v61 : FVec Ideal S1024x4736 .f32) (v80 v82 v83 : FVec Ideal S1024x1 .f32) (v85 : IVec S1024x1 1)
    (v108 : Vec Ideal S4736x3584 .fp8e4m3) (v112 : Vec Ideal S1x3584 .f32) (r : Fin 1024) (c : Fin 3584) :
    k0_pay14 (F := Ideal) v61 v80 v82 v83 v85 v108 v112 (ix2 r c)
      = dotp (fun k : Fin 4736 => k0_pay12 v61 v82 v83 v85 (ix2 r k)) (fun k => v108 (ix2 k c)) * k0_pay13 v80 (ix2 r 0)
          * v112 (ix2 0 c) := by
  have hd : dot_S1024x4736_S4736x3584_S1024x3584_1_0_0_1_n_n = DotDims.plain 1024 4736 3584 := rfl
  unfold k0_pay14
  rw [hd, shapeCast_id]
  refine (scaled _ _ v112 broadcasts_S1024x1_S1024x3584 broadcasts_S1x3584_S1024x3584 r c).trans ?_
  rw [product]

end Reference

end Cert.Value
-- ==== Proof.Value.Maths.lean ====
/-
  The five results as functions of whole arrays.
-/
module

public import proofs.«01_k».proof.Proof.Value.Product

@[expose] public section

noncomputable section

namespace Cert.Value
open Idealize.ShloMosaic

/-- An index of two axes is made of its two parts. -/
theorem exists_ix2 {a b : ℕ} (y : (⟨2, ![a, b]⟩ : Shape).Idx) : ∃ r c, y = ix2 r c :=
  ⟨y 0, y 1, by funext x; fin_cases x <;> rfl⟩

/-- The codes of x. -/
def xCodes (X : Vec Ideal (⟨2, ![1024, 3584]⟩ : Shape) .bf16) : Vec Ideal (⟨2, ![1024, 3584]⟩ : Shape) .fp8e4m3 :=
  fun i => code (X (ix2 (i 0) (i 1))) (kInv (amax fun k : Fin 3584 => X (ix2 (i 0) k)))

/-- The scales of x. -/
def xScale (X : Vec Ideal (⟨2, ![1024, 3584]⟩ : Shape) .bf16) : Vec Ideal (⟨2, ![1024, 1]⟩ : Shape) .f32 :=
  fun i => kScale (amax fun k : Fin 3584 => X (ix2 (i 0) k))

/-- A hidden value, out of the codes and scales of x, the weights and their column scales. -/
def hid (Q : Vec Ideal (⟨2, ![1024, 3584]⟩ : Shape) .fp8e4m3) (S : Vec Ideal (⟨2, ![1024, 1]⟩ : Shape) .f32)
    (W : Vec Ideal (⟨2, ![3584, 9472]⟩ : Shape) .fp8e4m3) (sg : Fin 9472 → EReal) (r : Fin 1024) (c : Fin 4736) : EReal :=
  gated (dotp (fun k : Fin 3584 => Q (ix2 r k)) (fun k => W (ix2 k ⟨c, by omega⟩)) * S (ix2 r 0) * sg ⟨c, by omega⟩)
    (dotp (fun k : Fin 3584 => Q (ix2 r k)) (fun k => W (ix2 k ⟨4736 + c, by omega⟩)) * S (ix2 r 0) * sg ⟨4736 + c, by omega⟩)

/-- The codes of the hidden values. -/
def hCodes (H : Fin 1024 → Fin 4736 → EReal) : Vec Ideal (⟨2, ![1024, 4736]⟩ : Shape) .fp8e4m3 :=
  fun i => code (H (i 0) (i 1)) (kInv (amax (H (i 0))))

/-- The scales of the hidden values. -/
def hScale (H : Fin 1024 → Fin 4736 → EReal) : Vec Ideal (⟨2, ![1024, 1]⟩ : Shape) .f32 :=
  fun i => kScale (amax (H (i 0)))

/-- The output, out of the codes and scales of the hidden values, the weights and their column scales. -/
def outv (Q : Vec Ideal (⟨2, ![1024, 4736]⟩ : Shape) .fp8e4m3) (S : Vec Ideal (⟨2, ![1024, 1]⟩ : Shape) .f32)
    (W : Vec Ideal (⟨2, ![4736, 3584]⟩ : Shape) .fp8e4m3) (sd : Fin 3584 → EReal) : Vec Ideal (⟨2, ![1024, 3584]⟩ : Shape) .bf16 :=
  fun i => dotp (fun k : Fin 4736 => Q (ix2 (i 0) k)) (fun k => W (ix2 k (i 1))) * S (ix2 (i 0) 0) * sd (i 1)

end Cert.Value
-- ==== Proof.Value.Results.lean ====
/-
  The five results as functions of the five arguments, and the reshapes before the calls.
-/
module

public import proofs.«01_k».proof.Proof.Value.Maths

@[expose] public section

noncomputable section

namespace Cert.Value
open Idealize.ShloMosaic

/-- A vector cast to a row. -/
theorem shapeCast_row {α : Type} {B : ℕ} (v : (⟨1, ![B]⟩ : Shape).Idx → α) (h : (⟨1, ![B]⟩ : Shape).ShapeCasts ⟨2, ![1, B]⟩)
    (z : Fin 1) (b : Fin B) : shapeCast ⟨2, ![1, B]⟩ v h (ix2 z b) = v (ix1 b) := by
  refine congrArg v (Shape.reshapeEquiv_eq_of_rowMajor h ?_)
  rw [rowMajor_val1, rowMajor_val2 _ B rfl]
  have : (z : ℕ) = 0 := by omega
  show (b : ℕ) = (z : ℕ) * B + (b : ℕ)
  rw [this]; ring

/-- A vector cut into equal pieces, one under the other. -/
theorem shapeCast_cut {α : Type} {A B R : ℕ} (v : (⟨1, ![R]⟩ : Shape).Idx → α)
    (h : (⟨1, ![R]⟩ : Shape).ShapeCasts ⟨3, ![A, 1, B]⟩) (q : Fin A) (b : Fin B) (g : Fin R) (hg : (g : ℕ) = q.val * B + b) :
    shapeCast ⟨3, ![A, 1, B]⟩ v h (ix3 q 0 b) = v (ix1 g) := by
  refine congrArg v (Shape.reshapeEquiv_eq_of_rowMajor h ?_)
  rw [rowMajor_val1, rowMajor_val3 _ (1 * B) B rfl rfl]
  show (g : ℕ) = (q : ℕ) * (1 * B) + 0 * B + (b : ℕ)
  rw [hg]; ring

section
variable (X : Vec Ideal (⟨2, ![1024, 3584]⟩ : Shape) .bf16) (a1 : Vec Ideal (⟨2, ![3584, 9472]⟩ : Shape) .fp8e4m3)
  (a2 : Vec Ideal (⟨1, ![9472]⟩ : Shape) .f32) (a3 : Vec Ideal (⟨2, ![4736, 3584]⟩ : Shape) .fp8e4m3)
  (a4 : Vec Ideal (⟨1, ![3584]⟩ : Shape) .f32)

/-- The hidden values. -/
def theHidden : Fin 1024 → Fin 4736 → EReal := hid (xCodes X) (xScale X) a1 fun g => a2 (ix1 g)

/-- The output. -/
def theOut : Vec Ideal (⟨2, ![1024, 3584]⟩ : Shape) .bf16 :=
  outv (hCodes (theHidden X a1 a2)) (hScale (theHidden X a1 a2)) a3 fun k => a4 (ix1 k)

end

end Cert.Value
-- ==== Proof.Value.KernelX.lean ====
/-
  What the kernel's first region leaves in its two result arrays: the codes and the scales of x.
-/
module

public import proofs.«01_k».proof.Proof.KernelIdeal.Quant
public import proofs.«01_k».proof.Proof.Value.Maths
public import Idealize.ShloMosaic.Lib.Pipeline.ValueKit

@[expose] public section

set_option maxRecDepth 16384

noncomputable section

namespace Cert.Value
open Idealize.ShloMosaic Idealize.ShloMosaic.TcCoe
open Cert.KernelIdeal Cert.KernelIdeal.Gen Cert.KernelIdeal.Hand

variable (V : (c : Dev nD) → (b : Ref sig .tc) → Buf (Elt Ideal) ((c : Thread nD τ).loc b))

theorem out0_1_eq (x : Vec Ideal S128x3584 .bf16) : out0_1 (F := Ideal) x = k0_pay2 (F := Ideal) (k0_pay3 x) (k0_pay6 x) := by
  have hz : (![0, 0] : Fin S128x3584.rank → Nat) = fun _ => 0 := funext fun a => by fin_cases a <;> rfl
  unfold out0_1
  rw [View.canon_unit_zero hz, View.ld_unit_zero hz]

theorem out0_2_eq (x : Vec Ideal S128x3584 .bf16) : out0_2 (F := Ideal) x = k0_pay1 (F := Ideal) (k0_pay5 x) := by
  have hz : (![0, 0] : Fin S128x3584.rank → Nat) = fun _ => 0 := funext fun a => by fin_cases a <;> rfl
  have hz' : (![0, 0] : Fin S128x1.rank → Nat) = fun _ => 0 := funext fun a => by fin_cases a <;> rfl
  unfold out0_2
  rw [View.canon_unit_zero hz', View.ld_unit_zero hz]

theorem idx0_0 : ∀ t : Fin cfg0.N, win0_0.index t 0 = t.val ∧ win0_0.index t 1 = 0 := by decide +kernel
theorem idx0_1 : ∀ t : Fin cfg0.N, win0_1.index t 0 = t.val ∧ win0_1.index t 1 = 0 := by decide +kernel
theorem idx0_2 : ∀ t : Fin cfg0.N, win0_2.index t 0 = t.val ∧ win0_2.index t 1 = 0 := by decide +kernel

/-- A block of x at one index. -/
theorem iblk0_apply (c : Dev nD) (t : Fin cfg0.N) (r : Fin 128) (k : Fin 3584) (r' : Fin 1024) (hr : (r' : ℕ) = t.val * 128 + r) :
    iblk0 V c 0 t (ix2 r k) = V c main_v0 (ix2 r' k) := by
  unfold iblk0
  show V c main_v0 (((cfg0.win 0).blk t).view.emb (ix2 r k)) = _
  congr 1
  funext a
  apply Fin.ext
  match a with
  | ⟨0, _⟩ => have h := (idx0_0 t).1; blk_simp; omega
  | ⟨1, _⟩ => have h := (idx0_0 t).2; blk_simp; omega

theorem x_codes_arr (c : Dev nD) : (dat0 V c).arrAt 1 cfg0.N = xCodes (V c main_v0) := by
  refine (dat0 V c).arrAt_eq_of_covers 1 _ (by decide +kernel) fun t hf y => ?_
  blk_simp
  rw [after0_1, out0_1_eq]
  have e0 : ((win0_1.blk t).view.emb y 0 : ℕ) = t.val * 128 + y 0 := by have h := (idx0_1 t).1; blk_simp; omega
  have e1 : ((win0_1.blk t).view.emb y 1 : ℕ) = y 1 := by have h := (idx0_1 t).2; blk_simp; omega
  generalize (win0_1.blk t).view.emb y = i at e0 e1 ⊢
  obtain ⟨r, k, rfl⟩ := exists_ix2 (a := 128) (b := 3584) y
  obtain ⟨r', k', rfl⟩ := exists_ix2 (a := 1024) (b := 3584) i
  obtain rfl : k' = k := Fin.ext e1
  refine (k0_codes _ r k').trans ?_
  simp only [iblk0_apply V c t r _ r' e0]
  rfl

theorem x_scale_arr (c : Dev nD) : (dat0 V c).arrAt 2 cfg0.N = xScale (V c main_v0) := by
  refine (dat0 V c).arrAt_eq_of_covers 2 _ (by decide +kernel) fun t hf y => ?_
  blk_simp
  rw [after0_2, out0_2_eq]
  have e0 : ((win0_2.blk t).view.emb y 0 : ℕ) = t.val * 128 + y 0 := by have h := (idx0_2 t).1; blk_simp; omega
  generalize (win0_2.blk t).view.emb y = i at e0 ⊢
  obtain ⟨r, k, rfl⟩ := exists_ix2 (a := 128) (b := 1) y
  obtain ⟨r', k', rfl⟩ := exists_ix2 (a := 1024) (b := 1) i
  refine (k0_scale _ r k).trans ?_
  simp only [iblk0_apply V c t r _ r' e0]
  rfl

end Cert.Value
-- ==== Proof.Value.KernelH.lean ====
/-
  What the kernel's second region leaves in its two result arrays: the codes and the scales of the hidden values. The
  running maximum over 37 tiles, and then over the 128 lanes, is the maximum over all 4736 columns.
-/
module

public import proofs.«01_k».proof.Proof.KernelIdeal.GateUp
public import proofs.«01_k».proof.Proof.Value.Maths
public import Idealize.ShloMosaic.Lib.Pipeline.ValueKit

@[expose] public section

set_option maxRecDepth 16384

noncomputable section

namespace Cert.Value
open Idealize.ShloMosaic Idealize.ShloMosaic.TcCoe
open Cert.KernelIdeal Cert.KernelIdeal.Gen Cert.KernelIdeal.Hand

section Payloads
variable (v0 v1 : Vec Ideal S3584x128 .fp8e4m3) (v3 : Vec Ideal S1024x3584 .fp8e4m3) (v6 : Vec Ideal S1024x1 .f32)
  (v11 v18 : Vec Ideal S1x1x128 .f32) (r : Fin 1024) (b : Fin 128)

theorem k1_tile : k1_pay51 (F := Ideal) v0 v1 v3 v6 v11 v18 (ix3 0 r b) = k1_pay50 (F := Ideal) v0 v1 v3 v6 v11 v18 (ix2 r b) := by
  unfold k1_pay51
  generalize k1_pay50 v0 v1 v3 v6 v11 v18 = h
  exact shapeCast_stack h _ 0 r b

theorem k1_max_first : k1_pay52 (F := Ideal) v0 v1 v3 v6 v11 v18 (ix2 r b)
    = max (k1_pay50 (F := Ideal) v0 v1 v3 v6 v11 v18 (ix2 r b)) (-(k1_pay50 (F := Ideal) v0 v1 v3 v6 v11 v18 (ix2 r b))) := by
  unfold k1_pay52
  generalize k1_pay50 v0 v1 v3 v6 v11 v18 = h
  rw [shapeCast_id]
  rfl

theorem k1_max_next (m : Vec Ideal S1024x128 .f32) : k1_pay53 (F := Ideal) v0 v1 v3 v6 v11 v18 m (ix2 r b)
    = max (m (ix2 r b)) (max (k1_pay50 (F := Ideal) v0 v1 v3 v6 v11 v18 (ix2 r b)) (-(k1_pay50 (F := Ideal) v0 v1 v3 v6 v11 v18 (ix2 r b)))) := by
  unfold k1_pay53
  generalize k1_pay50 v0 v1 v3 v6 v11 v18 = h
  rw [shapeCast_id]
  rfl

/-- A tile's hidden value is a value of the whole, once its blocks are the whole's. -/
theorem tile_of (Q : Vec Ideal S1024x3584 .fp8e4m3) (S : Vec Ideal S1024x1 .f32) (W : Vec Ideal S3584x9472 .fp8e4m3)
    (sg : Fin 9472 → EReal) (k : Fin 4736)
    (h0 : ∀ i : Fin 3584, v0 (ix2 i b) = W (ix2 i ⟨k, by omega⟩)) (h1 : ∀ i : Fin 3584, v1 (ix2 i b) = W (ix2 i ⟨4736 + k, by omega⟩))
    (h3 : ∀ i : Fin 3584, v3 (ix2 r i) = Q (ix2 r i)) (h6 : v6 (ix2 r 0) = S (ix2 r 0))
    (h11 : v11 (ix3 0 0 b) = sg ⟨k, by omega⟩) (h18 : v18 (ix3 0 0 b) = sg ⟨4736 + k, by omega⟩) :
    k1_pay50 (F := Ideal) v0 v1 v3 v6 v11 v18 (ix2 r b) = hid Q S W sg r k := by
  refine (k1_hidden v0 v1 v3 v6 v11 v18 r b).trans ?_
  unfold hid
  rw [h6, h11, h18, funext h0, funext h1, funext h3]

end Payloads

variable (V : (c : Dev nD) → (b : Ref sig .tc) → Buf (Elt Ideal) ((c : Thread nD τ).loc b))

theorem idx1_0 : ∀ t : Fin cfg1.N, win1_0.index t 0 = 0 ∧ win1_0.index t 1 = 0 := by decide +kernel
theorem idx1_1 : ∀ t : Fin cfg1.N, win1_1.index t 0 = 0 ∧ win1_1.index t 1 = 0 := by decide +kernel
theorem idx1_2 : ∀ t : Fin cfg1.N, win1_2.index t 0 = 0 ∧ win1_2.index t 1 = t.val := by decide +kernel
theorem idx1_3 : ∀ t : Fin cfg1.N, win1_3.index t 0 = 0 ∧ win1_3.index t 1 = t.val + 37 := by decide +kernel
theorem idx1_4 : ∀ t : Fin cfg1.N, win1_4.index t 0 = t.val ∧ win1_4.index t 1 = 0 ∧ win1_4.index t 2 = 0 := by decide +kernel
theorem idx1_5 : ∀ t : Fin cfg1.N, win1_5.index t 0 = t.val + 37 ∧ win1_5.index t 1 = 0 ∧ win1_5.index t 2 = 0 := by decide +kernel

theorem iblk1_0_apply (c : Dev nD) (t : Fin cfg1.N) (r : Fin 1024) (k : Fin 3584) :
    iblk1 V c 0 t (ix2 r k) = V c main_v1_0 (ix2 r k) := by
  unfold iblk1
  show V c main_v1_0 (((cfg1.win 0).blk t).view.emb (ix2 r k)) = _
  congr 1
  funext a
  apply Fin.ext
  match a with
  | ⟨0, _⟩ => have h := (idx1_0 t).1; blk_simp; omega
  | ⟨1, _⟩ => have h := (idx1_0 t).2; blk_simp; omega

theorem iblk1_1_apply (c : Dev nD) (t : Fin cfg1.N) (r : Fin 1024) (k : Fin 1) :
    iblk1 V c 1 t (ix2 r k) = V c main_v1_1 (ix2 r k) := by
  unfold iblk1
  show V c main_v1_1 (((cfg1.win 1).blk t).view.emb (ix2 r k)) = _
  congr 1
  funext a
  apply Fin.ext
  match a with
  | ⟨0, _⟩ => have h := (idx1_1 t).1; blk_simp; omega
  | ⟨1, _⟩ => have h := (idx1_1 t).2; blk_simp; omega

theorem iblk1_2_apply (c : Dev nD) (t : Fin cfg1.N) (r : Fin 3584) (k : Fin 128) (k' : Fin 9472) (hk : (k' : ℕ) = t.val * 128 + k) :
    iblk1 V c 2 t (ix2 r k) = V c main_arg1 (ix2 r k') := by
  unfold iblk1
  show V c main_arg1 (((cfg1.win 2).blk t).view.emb (ix2 r k)) = _
  congr 1
  funext a
  apply Fin.ext
  match a with
  | ⟨0, _⟩ => have h := (idx1_2 t).1; blk_simp; omega
  | ⟨1, _⟩ => have h := (idx1_2 t).2; blk_simp; omega

theorem iblk1_3_apply (c : Dev nD) (t : Fin cfg1.N) (r : Fin 3584) (k : Fin 128) (k' : Fin 9472)
    (hk : (k' : ℕ) = 4736 + (t.val * 128 + k)) : iblk1 V c 3 t (ix2 r k) = V c main_arg1 (ix2 r k') := by
  unfold iblk1
  show V c main_arg1 (((cfg1.win 3).blk t).view.emb (ix2 r k)) = _
  congr 1
  funext a
  apply Fin.ext
  match a with
  | ⟨0, _⟩ => have h := (idx1_3 t).1; blk_simp; omega
  | ⟨1, _⟩ => have h := (idx1_3 t).2; blk_simp; rw [h]; omega

theorem iblk1_4_apply (c : Dev nD) (t : Fin cfg1.N) (k : Fin 128) (q : Fin 74) (hq : (q : ℕ) = t.val) :
    iblk1 V c 4 t (ix3 0 0 k) = V c main_v2 (ix3 q 0 k) := by
  unfold iblk1
  show V c main_v2 (((cfg1.win 4).blk t).view.emb (ix3 0 0 k)) = _
  congr 1
  funext a
  apply Fin.ext
  match a with
  | ⟨0, _⟩ => have h := (idx1_4 t).1; blk_simp; omega
  | ⟨1, _⟩ => have h := (idx1_4 t).2.1; blk_simp; omega
  | ⟨2, _⟩ => have h := (idx1_4 t).2.2; blk_simp; omega

theorem iblk1_5_apply (c : Dev nD) (t : Fin cfg1.N) (k : Fin 128) (q : Fin 74) (hq : (q : ℕ) = t.val + 37) :
    iblk1 V c 5 t (ix3 0 0 k) = V c main_v2 (ix3 q 0 k) := by
  unfold iblk1
  show V c main_v2 (((cfg1.win 5).blk t).view.emb (ix3 0 0 k)) = _
  congr 1
  funext a
  apply Fin.ext
  match a with
  | ⟨0, _⟩ => have h := (idx1_5 t).1; blk_simp; omega
  | ⟨1, _⟩ => have h := (idx1_5 t).2.1; blk_simp; omega
  | ⟨2, _⟩ => have h := (idx1_5 t).2.2; blk_simp; omega

section Whole
variable (c : Dev nD) (sg : Fin 9472 → EReal)
  (hsg : ∀ (q : Fin 74) (b : Fin 128) (g : Fin 9472), (g : ℕ) = q.val * 128 + b → V c main_v2 (ix3 q 0 b) = sg g)

/-- The hidden values the region computes. -/
abbrev hidK : Fin 1024 → Fin 4736 → EReal := hid (V c main_v1_0) (V c main_v1_1) (V c main_arg1) sg

include hsg

/-- A tile's value is the hidden value of its column. -/
theorem tile_value (t : Fin cfg1.N) (r : Fin 1024) (b : Fin 128) (k : Fin 4736) (hk : (k : ℕ) = t.val * 128 + b) :
    k1_pay50 (F := Ideal) (iblk1 V c 2 t) (iblk1 V c 3 t) (iblk1 V c 0 t) (iblk1 V c 1 t) (iblk1 V c 4 t) (iblk1 V c 5 t) (ix2 r b)
      = hidK V c sg r k := by
  have ht : t.val < 37 := lt_of_lt_of_eq t.isLt (show cfg1.N = 37 from N_1)
  exact tile_of _ _ _ _ _ _ r b _ _ _ sg k (fun i => iblk1_2_apply V c t i b _ hk)
    (fun i => iblk1_3_apply V c t i b _ (by show 4736 + (k : ℕ) = _; omega)) (fun i => iblk1_0_apply V c t r i)
    (iblk1_1_apply V c t r 0)
    ((iblk1_4_apply V c t b ⟨t.val, by omega⟩ rfl).trans (hsg _ b _ hk))
    ((iblk1_5_apply V c t b ⟨t.val + 37, by omega⟩ rfl).trans
      (hsg _ b _ (by show 4736 + (k : ℕ) = (t.val + 37) * 128 + b; omega)))

/-- What bounds the running maximum. -/
theorem maxAt_le (r : Fin 1024) (b : Fin 128) (e : EReal) (n : ℕ) (hn : n < 37) :
    maxAt V c n (ix2 r b) ≤ e ↔ ∀ k : Fin 4736, (k : ℕ) % 128 = b → (k : ℕ) / 128 ≤ n → max (hidK V c sg r k) (-(hidK V c sg r k)) ≤ e := by
  have hp : ∀ n, n < 37 → (pt n : ℕ) = n := fun n h => Nat.mod_eq_of_lt h
  induction n with
  | zero =>
    rw [maxAt, k1_max_first, tile_value V c sg hsg (pt 0) r b ⟨b, by omega⟩ (by rw [hp 0 hn]; show (b : ℕ) = _; omega)]
    constructor
    · intro h k h1 h2
      have e : k = ⟨b, by omega⟩ := Fin.ext (show (k : ℕ) = b by omega)
      rw [e]
      exact h
    · intro h
      exact h ⟨b, by omega⟩ (Nat.mod_eq_of_lt b.isLt) (by show (b : ℕ) / 128 ≤ 0; omega)
  | succ n ih =>
    rw [maxAt, k1_max_next, tile_value V c sg hsg (pt (n + 1)) r b ⟨(n + 1) * 128 + b, by omega⟩ (by rw [hp _ hn]), max_le_iff]
    have ih' := ih (Nat.lt_of_succ_lt hn)
    constructor
    · rintro ⟨h, h'⟩ k h1 h2
      replace h := ih'.mp h
      by_cases hk : (k : ℕ) / 128 ≤ n
      · exact h k h1 hk
      · have e : k = ⟨(n + 1) * 128 + b, by omega⟩ := Fin.ext (show (k : ℕ) = (n + 1) * 128 + b by omega)
        rw [e]
        exact h'
    · intro h
      exact ⟨ih'.mpr fun k h1 h2 => h k h1 (by omega), h ⟨(n + 1) * 128 + b, by omega⟩ (by show ((n + 1) * 128 + (b : ℕ)) % 128 = b; omega)
        (by show ((n + 1) * 128 + (b : ℕ)) / 128 ≤ n + 1; omega)⟩

/-- The maximum over the lanes of the last running maximum is the row's. -/
theorem maxAt_all (r : Fin 1024) :
    Finset.univ.fold max (Ideal.ofBits .f32 0xFF800000#32) (fun b : Fin 128 => maxAt V c 36 (ix2 r b)) * Ideal.ofBits .f32 0x3B124925#32
      = amax (hidK V c sg r) := by
  unfold amax
  refine congrArg (· * Ideal.ofBits .f32 0x3B124925#32) (eq_of_forall_ge_iff fun e => ?_)
  rw [Finset.fold_max_le, Finset.fold_max_le]
  refine and_congr_right fun _ => ?_
  constructor
  · intro h k _
    exact (maxAt_le V c sg hsg r ⟨k % 128, Nat.mod_lt _ (by decide)⟩ e 36 (by decide)).mp (h _ (Finset.mem_univ _)) k rfl (by omega)
  · intro h b _
    exact (maxAt_le V c sg hsg r b e 36 (by decide)).mpr fun k _ _ => h k (Finset.mem_univ _)

theorem codesLast_eq : codesLast V c = hCodes (hidK V c sg) := by
  funext y
  obtain ⟨r, k, rfl⟩ := exists_ix2 (a := 1024) (b := 4736) y
  unfold codesLast codesOf
  refine (k1_codes _ _ r ⟨k % 128, Nat.mod_lt _ (by decide)⟩).trans ?_
  unfold invOf
  rw [k1_inv, maxAt_all V c sg hsg r]
  refine congrArg (fun h => code h _) ?_
  have hp : (pt (k / 128) : ℕ) = k / 128 := Nat.mod_eq_of_lt (by omega)
  show tileAt V c (pt ((k : ℕ) / 128)) (ix3 0 r ⟨k % 128, _⟩) = _
  unfold tileAt
  rw [k1_tile, tile_value V c sg hsg (pt (k / 128)) r _ k (by rw [hp]; show (k : ℕ) = k / 128 * 128 + k % 128; omega)]
  rfl

theorem scaleLast_eq : scaleLast V c = hScale (hidK V c sg) := by
  funext y
  obtain ⟨r, k, rfl⟩ := exists_ix2 (a := 1024) (b := 1) y
  unfold scaleLast scaleOf
  rw [k1_scale, maxAt_all V c sg hsg r]
  rfl

/-- The last point. -/
def last1 : Fin cfg1.N := pt 36

theorem h_codes_arr : (dat1 V c).arrAt 6 cfg1.N = hCodes (hidK V c sg) := by
  rw [← codesLast_eq V c sg hsg]
  refine (dat1 V c).arrAt_eq_of_after_last 6 last1 (by decide +kernel) _ fun j => ?_
  blk_simp
  rw [after1_6]

theorem h_scale_arr : (dat1 V c).arrAt 7 cfg1.N = hScale (hidK V c sg) := by
  rw [← scaleLast_eq V c sg hsg]
  refine (dat1 V c).arrAt_eq_of_after_last 7 last1 (by decide +kernel) _ fun j => ?_
  blk_simp
  rw [after1_7]

end Whole

end Cert.Value
-- ==== Proof.Value.KernelOut.lean ====
/-
  What the kernel's third region leaves in its result array: the output.
-/
module

public import proofs.«01_k».proof.Proof.KernelIdeal.Down
public import proofs.«01_k».proof.Proof.Value.Maths
public import Idealize.ShloMosaic.Lib.Pipeline.ValueKit

@[expose] public section

set_option maxRecDepth 16384

noncomputable section

namespace Cert.Value
open Idealize.ShloMosaic Idealize.ShloMosaic.TcCoe
open Cert.KernelIdeal Cert.KernelIdeal.Gen Cert.KernelIdeal.Hand

variable (V : (c : Dev nD) → (b : Ref sig .tc) → Buf (Elt Ideal) ((c : Thread nD τ).loc b))

theorem out2_4_eq (x0 : Vec Ideal S1024x4736 .fp8e4m3) (x1 : Vec Ideal S1024x1 .f32) (x2 : Vec Ideal S4736x512 .fp8e4m3)
    (x3 : Vec Ideal S1x512 .f32) : out2_4 (F := Ideal) x0 x1 x2 x3 = k2_pay1 (F := Ideal) x0 x2 x1 x3 := by
  have h0 : (![0, 0] : Fin S1024x4736.rank → Nat) = fun _ => 0 := funext fun a => by fin_cases a <;> rfl
  have h1 : (![0, 0] : Fin S1024x1.rank → Nat) = fun _ => 0 := funext fun a => by fin_cases a <;> rfl
  have h2 : (![0, 0] : Fin S4736x512.rank → Nat) = fun _ => 0 := funext fun a => by fin_cases a <;> rfl
  have h3 : (![0, 0] : Fin S1x512.rank → Nat) = fun _ => 0 := funext fun a => by fin_cases a <;> rfl
  have h4 : (![0, 0] : Fin S1024x512.rank → Nat) = fun _ => 0 := funext fun a => by fin_cases a <;> rfl
  unfold out2_4
  rw [View.canon_unit_zero h4, View.ld_unit_zero h0, View.ld_unit_zero h1, View.ld_unit_zero h2, View.ld_unit_zero h3]

theorem idx2_0 : ∀ t : Fin cfg2.N, win2_0.index t 0 = 0 ∧ win2_0.index t 1 = 0 := by decide +kernel
theorem idx2_1 : ∀ t : Fin cfg2.N, win2_1.index t 0 = 0 ∧ win2_1.index t 1 = 0 := by decide +kernel
theorem idx2_2 : ∀ t : Fin cfg2.N, win2_2.index t 0 = 0 ∧ win2_2.index t 1 = t.val := by decide +kernel
theorem idx2_3 : ∀ t : Fin cfg2.N, win2_3.index t 0 = 0 ∧ win2_3.index t 1 = t.val := by decide +kernel
theorem idx2_4 : ∀ t : Fin cfg2.N, win2_4.index t 0 = 0 ∧ win2_4.index t 1 = t.val := by decide +kernel

theorem iblk2_0_apply (c : Dev nD) (t : Fin cfg2.N) (r : Fin 1024) (k : Fin 4736) :
    iblk2 V c 0 t (ix2 r k) = V c main_v3_0 (ix2 r k) := by
  unfold iblk2
  show V c main_v3_0 (((cfg2.win 0).blk t).view.emb (ix2 r k)) = _
  congr 1
  funext a
  apply Fin.ext
  match a with
  | ⟨0, _⟩ => have h := (idx2_0 t).1; blk_simp; omega
  | ⟨1, _⟩ => have h := (idx2_0 t).2; blk_simp; omega

theorem iblk2_1_apply (c : Dev nD) (t : Fin cfg2.N) (r : Fin 1024) (k : Fin 1) :
    iblk2 V c 1 t (ix2 r k) = V c main_v3_1 (ix2 r k) := by
  unfold iblk2
  show V c main_v3_1 (((cfg2.win 1).blk t).view.emb (ix2 r k)) = _
  congr 1
  funext a
  apply Fin.ext
  match a with
  | ⟨0, _⟩ => have h := (idx2_1 t).1; blk_simp; omega
  | ⟨1, _⟩ => have h := (idx2_1 t).2; blk_simp; omega

theorem iblk2_2_apply (c : Dev nD) (t : Fin cfg2.N) (r : Fin 4736) (k : Fin 512) (k' : Fin 3584) (hk : (k' : ℕ) = t.val * 512 + k) :
    iblk2 V c 2 t (ix2 r k) = V c main_arg3 (ix2 r k') := by
  unfold iblk2
  show V c main_arg3 (((cfg2.win 2).blk t).view.emb (ix2 r k)) = _
  congr 1
  funext a
  apply Fin.ext
  match a with
  | ⟨0, _⟩ => have h := (idx2_2 t).1; blk_simp; omega
  | ⟨1, _⟩ => have h := (idx2_2 t).2; blk_simp; omega

theorem iblk2_3_apply (c : Dev nD) (t : Fin cfg2.N) (r : Fin 1) (k : Fin 512) (k' : Fin 3584) (hk : (k' : ℕ) = t.val * 512 + k) :
    iblk2 V c 3 t (ix2 r k) = V c main_v4 (ix2 r k') := by
  unfold iblk2
  show V c main_v4 (((cfg2.win 3).blk t).view.emb (ix2 r k)) = _
  congr 1
  funext a
  apply Fin.ext
  match a with
  | ⟨0, _⟩ => have h := (idx2_3 t).1; blk_simp; omega
  | ⟨1, _⟩ => have h := (idx2_3 t).2; blk_simp; omega

theorem out_arr (c : Dev nD) : (dat2 V c).arrAt 4 cfg2.N
    = outv (V c main_v3_0) (V c main_v3_1) (V c main_arg3) (fun k => V c main_v4 (ix2 0 k)) := by
  refine (dat2 V c).arrAt_eq_of_covers 4 _ (by decide +kernel) fun t hf y => ?_
  blk_simp
  rw [after2_4, out2_4_eq]
  have e0 : ((win2_4.blk t).view.emb y 0 : ℕ) = y 0 := by have h := (idx2_4 t).1; blk_simp; omega
  have e1 : ((win2_4.blk t).view.emb y 1 : ℕ) = t.val * 512 + y 1 := by have h := (idx2_4 t).2; blk_simp; omega
  generalize (win2_4.blk t).view.emb y = i at e0 e1 ⊢
  obtain ⟨r, k, rfl⟩ := exists_ix2 (a := 1024) (b := 512) y
  obtain ⟨r', k', rfl⟩ := exists_ix2 (a := 1024) (b := 3584) i
  obtain rfl : r' = r := Fin.ext e0
  refine (k2_value _ _ _ _ r' k).trans ?_
  simp only [iblk2_0_apply, iblk2_1_apply, iblk2_2_apply V c t _ k k' e1, iblk2_3_apply V c t _ k k' e1]
  rfl

end Cert.Value
-- ==== Proof.Value.KernelRun.lean ====
/-
  The kernel's five results as functions of its arguments.
-/
module

public import proofs.«01_k».proof.Proof.KernelIdeal.Run
public import proofs.«01_k».proof.Proof.Value.Results
public import proofs.«01_k».proof.Proof.Value.KernelX
public import proofs.«01_k».proof.Proof.Value.KernelH
public import proofs.«01_k».proof.Proof.Value.KernelOut
public import Idealize.ShloMosaic.Lib.Tactic

@[expose] public section

set_option maxRecDepth 16384

noncomputable section

namespace Cert.Value
open Idealize.ShloMosaic Idealize.ShloMosaic.TcCoe
open Cert.KernelIdeal Cert.KernelIdeal.Gen Cert.KernelIdeal.Hand

variable (m : (b : Loc nD τ sig) → Buf (Elt Ideal) b) (ρ : Dev nD → PrngReg) (c : Dev nD)

/-- x as rows. -/
def rowsOf : Vec Ideal S1024x3584 .bf16 := shapeCast S1024x3584 (m ((c : Thread nD τ).loc main_arg0)) shapeCasts_S1x1024x3584_S1024x3584

/-- The hidden values. -/
def hidOf : Fin 1024 → Fin 4736 → EReal :=
  theHidden (rowsOf m c) (m ((c : Thread nD τ).loc main_arg1)) (m ((c : Thread nD τ).loc main_arg2))

theorem V1_x : V1 m ρ c main_v0 = rowsOf m c := by
  unfold_abbrev_sides
  after_results
  rfl

theorem W2_codes : W2 m ρ c (Proc.devRef .tc main_v1_0) = xCodes (rowsOf m c) :=
  (W2_arr m ρ c 1).trans ((x_codes_arr (V1 m ρ) c).trans (congrArg xCodes (V1_x m ρ c)))

theorem W2_scale : W2 m ρ c (Proc.devRef .tc main_v1_1) = xScale (rowsOf m c) :=
  (W2_arr m ρ c 2).trans ((x_scale_arr (V1 m ρ) c).trans (congrArg xScale (V1_x m ρ c)))

theorem V3_codes : V3 m ρ c main_v1_0 = xCodes (rowsOf m c) := (W3_of m ρ c main_v1_0 (by decide)).trans (W2_codes m ρ c)
theorem V3_scale : V3 m ρ c main_v1_1 = xScale (rowsOf m c) := (W3_of m ρ c main_v1_1 (by decide)).trans (W2_scale m ρ c)
theorem V3_weights : V3 m ρ c main_arg1 = m ((c : Thread nD τ).loc main_arg1) := W3_args m ρ c main_arg1 (by decide)

theorem V3_cut : V3 m ρ c main_v2 = shapeCast S74x1x128 (m ((c : Thread nD τ).loc main_arg2)) shapeCasts_S9472_S74x1x128 := by
  rw [← W2_args m ρ c main_arg2 (by decide)]
  show StableHlo.after hostOps1 (W2 m ρ c) (Proc.devRef .tc main_v2) = _
  generalize W2 m ρ c = W
  after_results
  rfl

theorem V3_column (q : Fin 74) (b : Fin 128) (g : Fin 9472) (hg : (g : ℕ) = q.val * 128 + b) :
    V3 m ρ c main_v2 (ix3 q 0 b) = m ((c : Thread nD τ).loc main_arg2) (ix1 g) := by
  rw [V3_cut]
  exact shapeCast_cut _ _ q b g hg

theorem hid_eq : hidK (V3 m ρ) c (fun g => m ((c : Thread nD τ).loc main_arg2) (ix1 g)) = hidOf m c := by
  unfold hidK
  rw [V3_codes, V3_scale, V3_weights]
  rfl

theorem W4_codes : W4 m ρ c (Proc.devRef .tc main_v3_0) = hCodes (hidOf m c) :=
  (W4_arr m ρ c 6).trans ((h_codes_arr (V3 m ρ) c _ (V3_column m ρ c)).trans (congrArg hCodes (hid_eq m ρ c)))

theorem W4_scale : W4 m ρ c (Proc.devRef .tc main_v3_1) = hScale (hidOf m c) :=
  (W4_arr m ρ c 7).trans ((h_scale_arr (V3 m ρ) c _ (V3_column m ρ c)).trans (congrArg hScale (hid_eq m ρ c)))

theorem V5_codes : V5 m ρ c main_v3_0 = hCodes (hidOf m c) := (W5_of m ρ c main_v3_0 (by decide)).trans (W4_codes m ρ c)
theorem V5_scale : V5 m ρ c main_v3_1 = hScale (hidOf m c) := (W5_of m ρ c main_v3_1 (by decide)).trans (W4_scale m ρ c)
theorem V5_weights : V5 m ρ c main_arg3 = m ((c : Thread nD τ).loc main_arg3) := W5_args m ρ c main_arg3 (by decide)

theorem V5_row : V5 m ρ c main_v4 = shapeCast S1x3584 (m ((c : Thread nD τ).loc main_arg4)) shapeCasts_S3584_S1x3584 := by
  rw [← W4_args m ρ c main_arg4 (by decide)]
  show StableHlo.after hostOps2 (W4 m ρ c) (Proc.devRef .tc main_v4) = _
  generalize W4 m ρ c = W
  after_results
  rfl

theorem V5_column : (fun k : Fin 3584 => V5 m ρ c main_v4 (ix2 0 k)) = fun k => m ((c : Thread nD τ).loc main_arg4) (ix1 k) := by
  funext k
  rw [V5_row]
  exact shapeCast_row _ _ 0 k

/-- The output. -/
theorem W6_out : W6 m ρ c (Proc.devRef .tc main_v5) = theOut (rowsOf m c) (m ((c : Thread nD τ).loc main_arg1))
    (m ((c : Thread nD τ).loc main_arg2)) (m ((c : Thread nD τ).loc main_arg3)) (m ((c : Thread nD τ).loc main_arg4)) := by
  refine (W6_arr m ρ c 4).trans ((out_arr (V5 m ρ) c).trans ?_)
  rw [V5_codes, V5_scale, V5_weights, V5_column]
  rfl

/-- The codes of x. -/
theorem W6_xcodes : W6 m ρ c (Proc.devRef .tc main_v1_0) = xCodes (rowsOf m c) :=
  (W6_of m ρ c main_v1_0 (by decide +kernel)).trans ((W5_of m ρ c main_v1_0 (by decide)).trans
    ((W4_of m ρ c main_v1_0 (by decide +kernel)).trans (V3_codes m ρ c)))

/-- The scales of x. -/
theorem W6_xscale : W6 m ρ c (Proc.devRef .tc main_v1_1) = xScale (rowsOf m c) :=
  (W6_of m ρ c main_v1_1 (by decide +kernel)).trans ((W5_of m ρ c main_v1_1 (by decide)).trans
    ((W4_of m ρ c main_v1_1 (by decide +kernel)).trans (V3_scale m ρ c)))

/-- The codes of the hidden values. -/
theorem W6_hcodes : W6 m ρ c (Proc.devRef .tc main_v3_0) = hCodes (hidOf m c) :=
  (W6_of m ρ c main_v3_0 (by decide +kernel)).trans (V5_codes m ρ c)

/-- The scales of the hidden values. -/
theorem W6_hscale : W6 m ρ c (Proc.devRef .tc main_v3_1) = hScale (hidOf m c) :=
  (W6_of m ρ c main_v3_1 (by decide +kernel)).trans (V5_scale m ρ c)

/-- The kernel's run: the five results, and the arguments as launched. -/
theorem kernel_run : θ_run defs (onTc (τ := τ) (main (F := Ideal))) ⟨m, fun _ => 0, ρ⟩ (fun r => ∀ c : Dev nD,
    r.2.mem ((c : Thread nD τ).loc main_v5) = theOut (rowsOf m c) (m ((c : Thread nD τ).loc main_arg1))
        (m ((c : Thread nD τ).loc main_arg2)) (m ((c : Thread nD τ).loc main_arg3)) (m ((c : Thread nD τ).loc main_arg4))
      ∧ r.2.mem ((c : Thread nD τ).loc main_v1_0) = xCodes (rowsOf m c)
      ∧ r.2.mem ((c : Thread nD τ).loc main_v1_1) = xScale (rowsOf m c)
      ∧ r.2.mem ((c : Thread nD τ).loc main_v3_0) = hCodes (hidOf m c)
      ∧ r.2.mem ((c : Thread nD τ).loc main_v3_1) = hScale (hidOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨(h.1 c _ (mem_uc main_v5 (by decide))).trans (W6_out m ρ c),
      (h.1 c _ (mem_uc main_v1_0 (by decide))).trans (W6_xcodes m ρ c),
      (h.1 c _ (mem_uc main_v1_1 (by decide))).trans (W6_xscale m ρ c),
      (h.1 c _ (mem_uc main_v3_0 (by decide))).trans (W6_hcodes m ρ c),
      (h.1 c _ (mem_uc main_v3_1 (by decide))).trans (W6_hscale m ρ c),
      (h.1 c _ (mem_uc main_arg0 (by decide))).trans (W6_main_arg0 m ρ c),
      (h.1 c _ (mem_uc main_arg1 (by decide))).trans (W6_main_arg1 m ρ c),
      (h.1 c _ (mem_uc main_arg2 (by decide))).trans (W6_main_arg2 m ρ c),
      (h.1 c _ (mem_uc main_arg3 (by decide))).trans (W6_main_arg3 m ρ c),
      (h.1 c _ (mem_uc main_arg4 (by decide))).trans (W6_main_arg4 m ρ c)⟩) (Hand.run m ρ)

end Cert.Value
-- ==== Proof.Value.RefArrays.lean ====
/-
  What the reference leaves in its five result arrays.
-/
module

public import proofs.«01_k».proof.Proof.Gen.ReferenceIdeal.Frame
public import proofs.«01_k».proof.Proof.Value.Maths
public import Idealize.ShloMosaic.Lib.Pipeline.ValueKit

@[expose] public section

set_option maxRecDepth 16384

noncomputable section

namespace Cert.Value.Ref
open Idealize.ShloMosaic Idealize.ShloMosaic.TcCoe
open Cert.ReferenceIdeal Cert.ReferenceIdeal.Gen

section Outs
variable (x0 : Vec Ideal S1024x3584 .bf16) (x1 : Vec Ideal S3584x9472 .fp8e4m3) (x2 : Vec Ideal S1x9472 .f32)
  (x3 : Vec Ideal S4736x3584 .fp8e4m3) (x4 : Vec Ideal S1x3584 .f32)

theorem z0 : (![0, 0] : Fin S1024x3584.rank → Nat) = fun _ => 0 := funext fun a => by fin_cases a <;> rfl
theorem z1 : (![0, 0] : Fin S3584x9472.rank → Nat) = fun _ => 0 := funext fun a => by fin_cases a <;> rfl
theorem z2 : (![0, 0] : Fin S1x9472.rank → Nat) = fun _ => 0 := funext fun a => by fin_cases a <;> rfl
theorem z3 : (![0, 0] : Fin S4736x3584.rank → Nat) = fun _ => 0 := funext fun a => by fin_cases a <;> rfl
theorem z4 : (![0, 0] : Fin S1x3584.rank → Nat) = fun _ => 0 := funext fun a => by fin_cases a <;> rfl
theorem z5 : (![0, 0] : Fin S1024x1.rank → Nat) = fun _ => 0 := funext fun a => by fin_cases a <;> rfl
theorem z6 : (![0, 0] : Fin S1024x4736.rank → Nat) = fun _ => 0 := funext fun a => by fin_cases a <;> rfl

theorem codes_eq : k0_pay3 x0 = xCodes x0 := by
  funext y
  obtain ⟨r, k, rfl⟩ := exists_ix2 (a := 1024) (b := 3584) y
  refine (r_xcodes x0 r k).trans ?_
  rw [← (scales_eq _).2]
  rfl

theorem scale_eq : k0_pay6 (k0_pay2 x0) (k0_pay4 x0) (k0_pay5 x0) = xScale x0 := by
  funext y
  obtain ⟨r, k, rfl⟩ := exists_ix2 (a := 1024) (b := 1) y
  refine (r_xscale x0 r k).trans ?_
  rw [← (scales_eq _).1]
  rfl

/-- The hidden values of the reference. -/
def H : Fin 1024 → Fin 4736 → EReal := hid (xCodes x0) (xScale x0) x1 fun g => x2 (ix2 0 g)

theorem hidden_eq (r : Fin 1024) (k : Fin 4736) :
    k0_pay7 (F := Ideal) (k0_pay2 x0) (k0_pay3 x0) (k0_pay4 x0) (k0_pay5 x0) x1 x2 (ix2 r k) = H x0 x1 x2 r k := by
  refine (r_hidden _ _ _ _ x1 x2 r k ⟨k, by omega⟩ ⟨4736 + k, by omega⟩ rfl rfl).trans ?_
  rw [scale_eq, codes_eq]
  rfl

theorem hcodes_eq : k0_pay12 (k0_pay7 (F := Ideal) (k0_pay2 x0) (k0_pay3 x0) (k0_pay4 x0) (k0_pay5 x0) x1 x2)
      (k0_pay9 (k0_pay2 x0) (k0_pay3 x0) (k0_pay4 x0) (k0_pay5 x0) x1 x2)
      (k0_pay10 (k0_pay2 x0) (k0_pay3 x0) (k0_pay4 x0) (k0_pay5 x0) x1 x2)
      (k0_pay11 (k0_pay2 x0) (k0_pay3 x0) (k0_pay4 x0) (k0_pay5 x0) x1 x2) = hCodes (H x0 x1 x2) := by
  funext y
  obtain ⟨r, k, rfl⟩ := exists_ix2 (a := 1024) (b := 4736) y
  refine (r_hcodes _ _ _ _ x1 x2 r k).trans ?_
  rw [← (scales_eq _).2]
  simp only [hidden_eq]
  rfl

theorem hscale_eq : k0_pay13 (k0_pay8 (F := Ideal) (k0_pay2 x0) (k0_pay3 x0) (k0_pay4 x0) (k0_pay5 x0) x1 x2)
    = hScale (H x0 x1 x2) := by
  funext y
  obtain ⟨r, k, rfl⟩ := exists_ix2 (a := 1024) (b := 1) y
  refine (r_hscale _ r k).trans ?_
  rw [r_hexp, ← (scales_eq _).1]
  simp only [hidden_eq]
  rfl

theorem out6 : out0_6 (F := Ideal) x0 x1 x2 x3 x4 = xCodes x0 := by
  unfold out0_6 k0_pay16
  rw [View.canon_unit_zero z0, View.ld_unit_zero z0, codes_eq]

theorem out7 : out0_7 (F := Ideal) x0 x1 x2 x3 x4 = xScale x0 := by
  unfold out0_7 k0_pay15 k0_pay17 k0_pay18
  rw [View.canon_unit_zero z5, View.ld_unit_zero z0, scale_eq]

theorem out8 : out0_8 (F := Ideal) x0 x1 x2 x3 x4 = hCodes (H x0 x1 x2) := by
  unfold out0_8 k0_pay19 k0_pay21 k0_pay22 k0_pay23 k0_pay15 k0_pay16 k0_pay17 k0_pay18
  rw [View.canon_unit_zero z6, View.ld_unit_zero z0, View.ld_unit_zero z1, View.ld_unit_zero z2, hcodes_eq]

theorem out9 : out0_9 (F := Ideal) x0 x1 x2 x3 x4 = hScale (H x0 x1 x2) := by
  unfold out0_9 k0_pay20 k0_pay15 k0_pay16 k0_pay17 k0_pay18
  rw [View.canon_unit_zero z5, View.ld_unit_zero z0, View.ld_unit_zero z1, View.ld_unit_zero z2, hscale_eq]

theorem out5 : out0_5 (F := Ideal) x0 x1 x2 x3 x4
    = outv (hCodes (H x0 x1 x2)) (hScale (H x0 x1 x2)) x3 fun k => x4 (ix2 0 k) := by
  unfold out0_5 k0_pay19 k0_pay20 k0_pay21 k0_pay22 k0_pay23 k0_pay15 k0_pay16 k0_pay17 k0_pay18
  rw [View.canon_unit_zero z0, View.ld_unit_zero z0, View.ld_unit_zero z1, View.ld_unit_zero z2, View.ld_unit_zero z3,
    View.ld_unit_zero z4]
  funext y
  obtain ⟨r, k, rfl⟩ := exists_ix2 (a := 1024) (b := 3584) y
  refine (r_value _ _ _ _ _ x3 x4 r k).trans ?_
  rw [hcodes_eq, hscale_eq]
  rfl

end Outs

variable (m : (b : Loc nD τ sig) → Buf (Elt Ideal) b)

/-- The one point. -/
def t0 : Fin cfg0.N := ⟨0, by decide +kernel⟩

theorem idx0 : win0_0.index t0 0 = 0 ∧ win0_0.index t0 1 = 0 := by decide +kernel
theorem idx1 : win0_1.index t0 0 = 0 ∧ win0_1.index t0 1 = 0 := by decide +kernel
theorem idx2 : win0_2.index t0 0 = 0 ∧ win0_2.index t0 1 = 0 := by decide +kernel
theorem idx3 : win0_3.index t0 0 = 0 ∧ win0_3.index t0 1 = 0 := by decide +kernel
theorem idx4 : win0_4.index t0 0 = 0 ∧ win0_4.index t0 1 = 0 := by decide +kernel

theorem iblk0_eq (c : Dev nD) : iblk m c 0 t0 = V m c main_v0 := by
  funext y
  unfold iblk
  show V m c main_v0 (((cfg0.win 0).blk t0).view.emb y) = _
  congr 1
  funext a
  apply Fin.ext
  match a with
  | ⟨0, _⟩ => have h := idx0.1; blk_simp; omega
  | ⟨1, _⟩ => have h := idx0.2; blk_simp; omega

theorem iblk1_eq (c : Dev nD) : iblk m c 1 t0 = V m c main_arg1 := by
  funext y
  unfold iblk
  show V m c main_arg1 (((cfg0.win 1).blk t0).view.emb y) = _
  congr 1
  funext a
  apply Fin.ext
  match a with
  | ⟨0, _⟩ => have h := idx1.1; blk_simp; omega
  | ⟨1, _⟩ => have h := idx1.2; blk_simp; omega

theorem iblk2_eq (c : Dev nD) : iblk m c 2 t0 = V m c main_v1 := by
  funext y
  unfold iblk
  show V m c main_v1 (((cfg0.win 2).blk t0).view.emb y) = _
  congr 1
  funext a
  apply Fin.ext
  match a with
  | ⟨0, _⟩ => have h := idx2.1; blk_simp; omega
  | ⟨1, _⟩ => have h := idx2.2; blk_simp; omega

theorem iblk3_eq (c : Dev nD) : iblk m c 3 t0 = V m c main_arg3 := by
  funext y
  unfold iblk
  show V m c main_arg3 (((cfg0.win 3).blk t0).view.emb y) = _
  congr 1
  funext a
  apply Fin.ext
  match a with
  | ⟨0, _⟩ => have h := idx3.1; blk_simp; omega
  | ⟨1, _⟩ => have h := idx3.2; blk_simp; omega

theorem iblk4_eq (c : Dev nD) : iblk m c 4 t0 = V m c main_v2 := by
  funext y
  unfold iblk
  show V m c main_v2 (((cfg0.win 4).blk t0).view.emb y) = _
  congr 1
  funext a
  apply Fin.ext
  match a with
  | ⟨0, _⟩ => have h := idx4.1; blk_simp; omega
  | ⟨1, _⟩ => have h := idx4.2; blk_simp; omega

/-- The hidden values of the reference's run. -/
abbrev HR (c : Dev nD) : Fin 1024 → Fin 4736 → EReal := H (V m c main_v0) (V m c main_arg1) (V m c main_v1)

theorem arr5 (c : Dev nD) : (dats m 0 c).arrAt 5 cfg0.N
    = outv (hCodes (HR m c)) (hScale (HR m c)) (V m c main_arg3) fun k => V m c main_v2 (ix2 0 k) := by
  refine (dats m 0 c).arrAt_eq_of_after_last 5 t0 (by decide +kernel) _ fun j => ?_
  blk_simp
  rw [after0_5, out5, iblk0_eq, iblk1_eq, iblk2_eq, iblk3_eq, iblk4_eq]

theorem arr6 (c : Dev nD) : (dats m 0 c).arrAt 6 cfg0.N = xCodes (V m c main_v0) := by
  refine (dats m 0 c).arrAt_eq_of_after_last 6 t0 (by decide +kernel) _ fun j => ?_
  blk_simp
  rw [after0_6, out6, iblk0_eq]

theorem arr7 (c : Dev nD) : (dats m 0 c).arrAt 7 cfg0.N = xScale (V m c main_v0) := by
  refine (dats m 0 c).arrAt_eq_of_after_last 7 t0 (by decide +kernel) _ fun j => ?_
  blk_simp
  rw [after0_7, out7, iblk0_eq]

theorem arr8 (c : Dev nD) : (dats m 0 c).arrAt 8 cfg0.N = hCodes (HR m c) := by
  refine (dats m 0 c).arrAt_eq_of_after_last 8 t0 (by decide +kernel) _ fun j => ?_
  blk_simp
  rw [after0_8, out8, iblk0_eq, iblk1_eq, iblk2_eq]

theorem arr9 (c : Dev nD) : (dats m 0 c).arrAt 9 cfg0.N = hScale (HR m c) := by
  refine (dats m 0 c).arrAt_eq_of_after_last 9 t0 (by decide +kernel) _ fun j => ?_
  blk_simp
  rw [after0_9, out9, iblk0_eq, iblk1_eq, iblk2_eq]

end Cert.Value.Ref
-- ==== Proof.Value.RefRun.lean ====
/-
  The reference's five results as functions of its arguments.
-/
module

public import proofs.«01_k».proof.Proof.Value.Results
public import proofs.«01_k».proof.Proof.Value.RefArrays
public import Idealize.ShloMosaic.Lib.Tactic

@[expose] public section

set_option maxRecDepth 16384

noncomputable section

namespace Cert.Value.Ref
open Idealize.ShloMosaic Idealize.ShloMosaic.TcCoe
open Cert.ReferenceIdeal Cert.ReferenceIdeal.Gen

variable (m : (b : Loc nD τ sig) → Buf (Elt Ideal) b) (ρ : Dev nD → PrngReg) (c : Dev nD)

/-- x as rows. -/
def rowsOf : Vec Ideal S1024x3584 .bf16 := shapeCast S1024x3584 (m ((c : Thread nD τ).loc main_arg0)) shapeCasts_S1x1024x3584_S1024x3584

/-- The hidden values. -/
def hidOf : Fin 1024 → Fin 4736 → EReal :=
  theHidden (rowsOf m c) (m ((c : Thread nD τ).loc main_arg1)) (m ((c : Thread nD τ).loc main_arg2))

theorem V_x : V m c main_v0 = rowsOf m c := by
  unfold_abbrev_sides
  after_results
  rfl

theorem V_s1 : V m c main_v1 = shapeCast S1x9472 (m ((c : Thread nD τ).loc main_arg2)) shapeCasts_S9472_S1x9472 := by
  unfold_abbrev_sides
  after_results
  rfl

theorem V_s2 : V m c main_v2 = shapeCast S1x3584 (m ((c : Thread nD τ).loc main_arg4)) shapeCasts_S3584_S1x3584 := by
  unfold_abbrev_sides
  after_results
  rfl

theorem HR_eq : HR m c = hidOf m c := by
  unfold HR H hidOf theHidden
  rw [V_x, V_main_arg1, V_s1]
  congr 1
  funext g
  exact shapeCast_row _ _ 0 g

theorem arr_out : (dats m 0 c).arrAt 5 cfg0.N = theOut (rowsOf m c) (m ((c : Thread nD τ).loc main_arg1))
    (m ((c : Thread nD τ).loc main_arg2)) (m ((c : Thread nD τ).loc main_arg3)) (m ((c : Thread nD τ).loc main_arg4)) := by
  rw [arr5, HR_eq, V_main_arg3, V_s2]
  unfold theOut
  refine congrArg (outv _ _ _) ?_
  funext k
  exact shapeCast_row _ _ 0 k

theorem arr_xcodes : (dats m 0 c).arrAt 6 cfg0.N = xCodes (rowsOf m c) := by rw [arr6, V_x]
theorem arr_xscale : (dats m 0 c).arrAt 7 cfg0.N = xScale (rowsOf m c) := by rw [arr7, V_x]
theorem arr_hcodes : (dats m 0 c).arrAt 8 cfg0.N = hCodes (hidOf m c) := by rw [arr8, HR_eq]
theorem arr_hscale : (dats m 0 c).arrAt 9 cfg0.N = hScale (hidOf m c) := by rw [arr9, HR_eq]

end Cert.Value.Ref
-- ==== Proof.Value.Equation.lean ====
/-
  The two programs leave the same five results, as real numbers.
-/
module

public import proofs.«01_k».proof.Defs
public import proofs.«01_k».proof.Proof.Value.KernelRun
public import proofs.«01_k».proof.Proof.Value.RefRun

@[expose] public section

set_option maxRecDepth 16384

noncomputable section

namespace Cert.Value
open Idealize.ShloMosaic Idealize.ShloMosaic.TcCoe

theorem algebraic : Cert.algebraic_KernelIdeal_ReferenceIdeal (hKernelIdeal := Cert.KernelIdeal.Gen.facts)
    (hReferenceIdeal := Cert.ReferenceIdeal.Gen.facts) := by
  intro m g m' g' _ hagree
  have hx : ∀ c, Ref.rowsOf m' c = rowsOf m c := fun c => by
    unfold Ref.rowsOf rowsOf
    rw [(hagree c).1]
  have hh : ∀ c, Ref.hidOf m' c = hidOf m c := fun c => by
    unfold Ref.hidOf hidOf
    rw [hx c, (hagree c).2.1, (hagree c).2.2.1]
  refine ⟨_, _, _, _, _, kernel_run m g, ?_⟩
  run_from Cert.ReferenceIdeal.Gen.run_main m' g'
  · refine (Ref.arr_out m' c).trans ?_
    rw [hx c, (hagree c).2.1, (hagree c).2.2.1, (hagree c).2.2.2.1, (hagree c).2.2.2.2]
  · exact (Ref.arr_xcodes m' c).trans (congrArg xCodes (hx c))
  · exact (Ref.arr_xscale m' c).trans (congrArg xScale (hx c))
  · exact (Ref.arr_hcodes m' c).trans (congrArg hCodes (hh c))
  · exact (Ref.arr_hscale m' c).trans (congrArg hScale (hh c))

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Value.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ, trivial, Cert.Value.algebraic⟩

end Cert.Proof

end
